-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x40x128 : Shape := ⟨4, ![2, 768, 40, 128]⟩
abbrev S2x6x40 : Shape := ⟨3, ![2, 6, 40]⟩
abbrev S2x768x8x128 : Shape := ⟨4, ![2, 768, 8, 128]⟩
abbrev S2x6x8 : Shape := ⟨3, ![2, 6, 8]⟩
abbrev S8x128 : Shape := ⟨2, ![8, 128]⟩
abbrev S_ : Shape := ⟨0, ![]⟩
abbrev S1x1 : Shape := ⟨2, ![1, 1]⟩
abbrev S6x2x40 : Shape := ⟨3, ![6, 2, 40]⟩
abbrev S6x2x8 : Shape := ⟨3, ![6, 2, 8]⟩
abbrev S2x30720x128 : Shape := ⟨3, ![2, 30720, 128]⟩
abbrev S2x6144x128 : Shape := ⟨3, ![2, 6144, 128]⟩
abbrev S2x768x5120 : Shape := ⟨3, ![2, 768, 5120]⟩
abbrev S1x5120x128 : Shape := ⟨3, ![1, 5120, 128]⟩
abbrev S1x1024x128 : Shape := ⟨3, ![1, 1024, 128]⟩
abbrev S1x128x5120 : Shape := ⟨3, ![1, 128, 5120]⟩
abbrev S8x640x128 : Shape := ⟨3, ![8, 640, 128]⟩
abbrev S8x768x128 : Shape := ⟨3, ![8, 768, 128]⟩
abbrev S32x128 : Shape := ⟨2, ![32, 128]⟩
abbrev S5120x128 : Shape := ⟨2, ![5120, 128]⟩
abbrev S128x40x128 : Shape := ⟨3, ![128, 40, 128]⟩
abbrev S32x1x128 : Shape := ⟨3, ![32, 1, 128]⟩
abbrev S1x32x128 : Shape := ⟨3, ![1, 32, 128]⟩
abbrev S1024x128 : Shape := ⟨2, ![1024, 128]⟩
abbrev S128x8x128 : Shape := ⟨3, ![128, 8, 128]⟩
abbrev S1x640x128 : Shape := ⟨3, ![1, 640, 128]⟩
abbrev S640x128 : Shape := ⟨2, ![640, 128]⟩
abbrev S1x128x128 : Shape := ⟨3, ![1, 128, 128]⟩
abbrev S128x128 : Shape := ⟨2, ![128, 128]⟩
abbrev S1x1x1 : Shape := ⟨3, ![1, 1, 1]⟩
abbrev S1x128 : Shape := ⟨2, ![1, 128]⟩
abbrev S1x256x128 : Shape := ⟨3, ![1, 256, 128]⟩
abbrev S256x128 : Shape := ⟨2, ![256, 128]⟩
abbrev S640x256 : Shape := ⟨2, ![640, 256]⟩
abbrev S128x256 : Shape := ⟨2, ![128, 256]⟩

abbrev nBuf : Space → Nat
  | .hbm => 14
  | .vmem => 13
  | .smem => 3
  | _ => 0

abbrev bufTy : (tb : Table) → Fin (tcTables nBuf tb) → BufTy
  | .hbm, ⟨0, _⟩ => ⟨S2x768x40x128, .fp8e4m3⟩
  | .hbm, ⟨1, _⟩ => ⟨S2x6x40, .f32⟩
  | .hbm, ⟨2, _⟩ => ⟨S2x768x8x128, .fp8e4m3⟩
  | .hbm, ⟨3, _⟩ => ⟨S2x6x8, .f32⟩
  | .hbm, ⟨4, _⟩ => ⟨S2x768x8x128, .fp8e4m3⟩
  | .hbm, ⟨5, _⟩ => ⟨S8x128, .f32⟩
  | .hbm, ⟨6, _⟩ => ⟨S_, .f32⟩
  | .hbm, ⟨7, _⟩ => ⟨S1x1, .f32⟩
  | .hbm, ⟨8, _⟩ => ⟨S6x2x40, .f32⟩
  | .hbm, ⟨9, _⟩ => ⟨S6x2x8, .f32⟩
  | .hbm, ⟨10, _⟩ => ⟨S2x30720x128, .fp8e4m3⟩
  | .hbm, ⟨11, _⟩ => ⟨S2x6144x128, .fp8e4m3⟩
  | .hbm, ⟨12, _⟩ => ⟨S2x6144x128, .fp8e4m3⟩
  | .hbm, ⟨13, _⟩ => ⟨S2x768x5120, .bf16⟩
  | .local _ .vmem, ⟨0, _⟩ => ⟨S8x128, .f32⟩
  | .local _ .vmem, ⟨1, _⟩ => ⟨S1x5120x128, .fp8e4m3⟩
  | .local _ .vmem, ⟨2, _⟩ => ⟨S1x5120x128, .fp8e4m3⟩
  | .local _ .vmem, ⟨3, _⟩ => ⟨S1x1024x128, .fp8e4m3⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x1024x128, .fp8e4m3⟩
  | .local _ .vmem, ⟨7, _⟩ => ⟨S1x128x5120, .bf16⟩
  | .local _ .vmem, ⟨8, _⟩ => ⟨S1x128x5120, .bf16⟩
  | .local _ .vmem, ⟨9, _⟩ => ⟨S8x640x128, .fp8e4m3⟩
  | .local _ .vmem, ⟨10, _⟩ => ⟨S8x768x128, .fp8e4m3⟩
  | .local _ .vmem, ⟨11, _⟩ => ⟨S8x768x128, .fp8e4m3⟩
  | .local _ .vmem, ⟨12, _⟩ => ⟨S32x128, .i32⟩
  | .local _ .smem, ⟨0, _⟩ => ⟨S1x1, .f32⟩
  | .local _ .smem, ⟨1, _⟩ => ⟨S6x2x40, .f32⟩
  | .local _ .smem, ⟨2, _⟩ => ⟨S6x2x8, .f32⟩
  | _, _ => ⟨S2x768x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 6], ![false, false]⟩

def k0_mult1 (i : grid0.Coords) : BitVec 32 :=
  let arg1 : BitVec 32 := BitVec.ofNat 32 (i 1).val
  let c128_i32 : BitVec 32 := 128#32
  let v5 : BitVec 32 := Scalar.muli arg1 c128_i32
  v5
def k0_off1 (i : grid0.Coords) (c0_i32_461 : BitVec 32) : Fin 3 → Nat :=
  let c0_462 : Index := 0#32
  let arg1 : BitVec 32 := BitVec.ofNat 32 (i 1).val
  let c128_i32 : BitVec 32 := 128#32
  let v5 : BitVec 32 := Scalar.muli arg1 c128_i32
  let v6 : BitVec 32 := v5
  let v815 : BitVec 32 := Scalar.addi v6 c0_i32_461
  let v816 : Index := Scalar.indexCast v815
  let c0_463 : Index := 0#32
  ![0, v816.toNat, 0]
def k0_off2 (i : grid0.Coords) (c0_i32_464 : BitVec 32) : Fin 3 → Nat :=
  let c1_465 : Index := 1#32
  let arg1 : BitVec 32 := BitVec.ofNat 32 (i 1).val
  let c128_i32 : BitVec 32 := 128#32
  let v5 : BitVec 32 := Scalar.muli arg1 c128_i32
  let v6 : BitVec 32 := v5
  let v822 : BitVec 32 := Scalar.addi v6 c0_i32_464
  let v823 : Index := Scalar.indexCast v822
  let c0_466 : Index := 0#32
  ![1, v823.toNat, 0]
def k0_off3 (i : grid0.Coords) (c0_i32_467 : BitVec 32) : Fin 3 → Nat :=
  let c2_468 : Index := 2#32
  let arg1 : BitVec 32 := BitVec.ofNat 32 (i 1).val
  let c128_i32 : BitVec 32 := 128#32
  let v5 : BitVec 32 := Scalar.muli arg1 c128_i32
  let v6 : BitVec 32 := v5
  let v829 : BitVec 32 := Scalar.addi v6 c0_i32_467
  let v830 : Index := Scalar.indexCast v829
  let c0_469 : Index := 0#32
  ![2, v830.toNat, 0]
def k0_off4 (i : grid0.Coords) (c0_i32_470 : BitVec 32) : Fin 3 → Nat :=
  let c3_471 : Index := 3#32
  let arg1 : BitVec 32 := BitVec.ofNat 32 (i 1).val
  let c128_i32 : BitVec 32 := 128#32
  let v5 : BitVec 32 := Scalar.muli arg1 c128_i32
  let v6 : BitVec 32 := v5
  let v836 : BitVec 32 := Scalar.addi v6 c0_i32_470
  let v837 : Index := Scalar.indexCast v836
  let c0_472 : Index := 0#32
  ![3, v837.toNat, 0]
def k0_off5 (i : grid0.Coords) (c0_i32_506 : BitVec 32) : Fin 3 → Nat :=
  let c4_507 : Index := 4#32
  let arg1 : BitVec 32 := BitVec.ofNat 32 (i 1).val
  let c128_i32 : BitVec 32 := 128#32
  let v5 : BitVec 32 := Scalar.muli arg1 c128_i32
  let v6 : BitVec 32 := v5
  let v927 : BitVec 32 := Scalar.addi v6 c0_i32_506
  let v928 : Index := Scalar.indexCast v927
  let c0_508 : Index := 0#32
  ![4, v928.toNat, 0]
def k0_off6 (i : grid0.Coords) (c0_i32_509 : BitVec 32) : Fin 3 → Nat :=
  let c5_510 : Index := 5#32
  let arg1 : BitVec 32 := BitVec.ofNat 32 (i 1).val
  let c128_i32 : BitVec 32 := 128#32
  let v5 : BitVec 32 := Scalar.muli arg1 c128_i32
  let v6 : BitVec 32 := v5
  let v934 : BitVec 32 := Scalar.addi v6 c0_i32_509
  let v935 : Index := Scalar.indexCast v934
  let c0_511 : Index := 0#32
  ![5, v935.toNat, 0]
def k0_off7 (i : grid0.Coords) (c0_i32_512 : BitVec 32) : Fin 3 → Nat :=
  let c6_513 : Index := 6#32
  let arg1 : BitVec 32 := BitVec.ofNat 32 (i 1).val
  let c128_i32 : BitVec 32 := 128#32
  let v5 : BitVec 32 := Scalar.muli arg1 c128_i32
  let v6 : BitVec 32 := v5
  let v941 : BitVec 32 := Scalar.addi v6 c0_i32_512
  let v942 : Index := Scalar.indexCast v941
  let c0_514 : Index := 0#32
  ![6, v942.toNat, 0]
def k0_off8 (i : grid0.Coords) (c0_i32_515 : BitVec 32) : Fin 3 → Nat :=
  let c7_516 : Index := 7#32
  let arg1 : BitVec 32 := BitVec.ofNat 32 (i 1).val
  let c128_i32 : BitVec 32 := 128#32
  let v5 : BitVec 32 := Scalar.muli arg1 c128_i32
  let v6 : BitVec 32 := v5
  let v948 : BitVec 32 := Scalar.addi v6 c0_i32_515
  let v949 : Index := Scalar.indexCast v948
  let c0_517 : Index := 0#32
  ![7, v949.toNat, 0]
def k0_cond2 (i : grid0.Coords) : BitVec 1 :=
  let arg1 : BitVec 32 := BitVec.ofNat 32 (i 1).val
  let c0_i32_653 : BitVec 32 := 0#32
  let v1264 : BitVec 1 := Scalar.cmpi .eq arg1 c0_i32_653
  let v1265 : BitVec 32 := Scalar.extui v1264
  let c0_i32_654 : BitVec 32 := 0#32
  let v1266 : BitVec 1 := Scalar.cmpi .ne v1265 c0_i32_654
  v1266

@[reducible] def k0_t1_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off9 (k0_t1 : Fin k0_t1_loop.trips) : Fin 3 → Nat :=
  let c0_i32_662 : BitVec 32 := 0#32
  let c1_i32_663 : BitVec 32 := 1#32
  let arg14 : BitVec 32 := Scf.iv c0_i32_662 c1_i32_663 k0_t1
  let v1285 : Index := Scalar.indexCast arg14
  let c0_665 : Index := 0#32
  let c0_666 : Index := 0#32
  ![v1285.toNat, 0, 0]
def k0_off10 (k0_t1 : Fin k0_t1_loop.trips) : Fin 3 → Nat :=
  let c0_i32_662 : BitVec 32 := 0#32
  let c1_i32_663 : BitVec 32 := 1#32
  let arg14 : BitVec 32 := Scf.iv c0_i32_662 c1_i32_663 k0_t1
  let v1288 : Index := Scalar.indexCast arg14
  let c0_667 : Index := 0#32
  let c0_668 : Index := 0#32
  ![v1288.toNat, 0, 0]
def k0_off11 (i : grid0.Coords) (k0_t1 : Fin k0_t1_loop.trips) (c0_i32_671 : BitVec 32) : Fin 3 → Nat :=
  let c0_672 : Index := 0#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t1
  let c5_i32_670 : BitVec 32 := 5#32
  let v1292 : BitVec 32 := Scalar.muli arg14 c5_i32_670
  let v1293 : BitVec 32 := Scalar.addi v1292 c0_i32_671
  let v1295 : Index := Scalar.indexCast v1293
  ![0, v1294.toNat, v1295.toNat]
def k0_off12 (i : grid0.Coords) (k0_t1 : Fin k0_t1_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t1
  let v1298 : Index := Scalar.indexCast arg14
  ![0, v1297.toNat, v1298.toNat]
def k0_off13 (k0_t1 : Fin k0_t1_loop.trips) : Fin 2 → Nat :=
  let c0_i32_662 : BitVec 32 := 0#32
  let c1_i32_663 : BitVec 32 := 1#32
  let arg14 : BitVec 32 := Scf.iv c0_i32_662 c1_i32_663 k0_t1
  let v1442 : Index := Scalar.indexCast arg14
  let c0_732 : Index := 0#32
  ![v1442.toNat, 0]
def k0_mult2 (k0_t1 : Fin k0_t1_loop.trips) : BitVec 32 :=
  let c0_i32_662 : BitVec 32 := 0#32
  let c1_i32_663 : BitVec 32 := 1#32
  let arg14 : BitVec 32 := Scf.iv c0_i32_662 c1_i32_663 k0_t1
  let c5_i32_733 : BitVec 32 := 5#32
  let v1446 : BitVec 32 := Scalar.muli arg14 c5_i32_733
  let c0_i32_734 : BitVec 32 := 0#32
  let v1447 : BitVec 32 := Scalar.addi v1446 c0_i32_734
  let c128_i32_735 : BitVec 32 := 128#32
  let v1448 : BitVec 32 := Scalar.muli v1447 c128_i32_735
  v1448
def k0_off14 (k0_t1 : Fin k0_t1_loop.trips) (c0_i32_734 : BitVec 32) : Fin 3 → Nat :=
  let c0_736 : Index := 0#32
  let c0_737 : Index := 0#32
  let c0_i32_662 : BitVec 32 := 0#32
  let c1_i32_663 : BitVec 32 := 1#32
  let arg14 : BitVec 32 := Scf.iv c0_i32_662 c1_i32_663 k0_t1
  let c5_i32_733 : BitVec 32 := 5#32
  let v1446 : BitVec 32 := Scalar.muli arg14 c5_i32_733
  let v1447 : BitVec 32 := Scalar.addi v1446 c0_i32_734
  let c128_i32_735 : BitVec 32 := 128#32
  let v1448 : BitVec 32 := Scalar.muli v1447 c128_i32_735
  let v1449 : BitVec 32 := v1448
  let v1454 : Index := Scalar.indexCast v1449
  ![0, 0, v1454.toNat]
def k0_mult3 (k0_t1 : Fin k0_t1_loop.trips) : BitVec 32 :=
  let c0_i32_662 : BitVec 32 := 0#32
  let c1_i32_663 : BitVec 32 := 1#32
  let arg14 : BitVec 32 := Scf.iv c0_i32_662 c1_i32_663 k0_t1
  let c5_i32_738 : BitVec 32 := 5#32
  let v1458 : BitVec 32 := Scalar.muli arg14 c5_i32_738
  let c1_i32_739 : BitVec 32 := 1#32
  let v1459 : BitVec 32 := Scalar.addi v1458 c1_i32_739
  let c128_i32_740 : BitVec 32 := 128#32
  let v1460 : BitVec 32 := Scalar.muli v1459 c128_i32_740
  v1460
def k0_mult4 (k0_t1 : Fin k0_t1_loop.trips) : BitVec 32 :=
  let c0_i32_662 : BitVec 32 := 0#32
  let c1_i32_663 : BitVec 32 := 1#32
  let arg14 : BitVec 32 := Scf.iv c0_i32_662 c1_i32_663 k0_t1
  let c5_i32_743 : BitVec 32 := 5#32
  let v1470 : BitVec 32 := Scalar.muli arg14 c5_i32_743
  let c2_i32_744 : BitVec 32 := 2#32
  let v1471 : BitVec 32 := Scalar.addi v1470 c2_i32_744
  let c128_i32_745 : BitVec 32 := 128#32
  let v1472 : BitVec 32 := Scalar.muli v1471 c128_i32_745
  v1472
def k0_mult5 (k0_t1 : Fin k0_t1_loop.trips) : BitVec 32 :=
  let c0_i32_662 : BitVec 32 := 0#32
  let c1_i32_663 : BitVec 32 := 1#32
  let arg14 : BitVec 32 := Scf.iv c0_i32_662 c1_i32_663 k0_t1
  let c5_i32_748 : BitVec 32 := 5#32
  let v1482 : BitVec 32 := Scalar.muli arg14 c5_i32_748
  let c3_i32_749 : BitVec 32 := 3#32
  let v1483 : BitVec 32 := Scalar.addi v1482 c3_i32_749
  let c128_i32_750 : BitVec 32 := 128#32
  let v1484 : BitVec 32 := Scalar.muli v1483 c128_i32_750
  v1484
def k0_mult6 (k0_t1 : Fin k0_t1_loop.trips) : BitVec 32 :=
  let c0_i32_662 : BitVec 32 := 0#32
  let c1_i32_663 : BitVec 32 := 1#32
  let arg14 : BitVec 32 := Scf.iv c0_i32_662 c1_i32_663 k0_t1
  let c5_i32_753 : BitVec 32 := 5#32
  let v1494 : BitVec 32 := Scalar.muli arg14 c5_i32_753
  let c4_i32_754 : BitVec 32 := 4#32
  let v1495 : BitVec 32 := Scalar.addi v1494 c4_i32_754
  let c128_i32_755 : BitVec 32 := 128#32
  let v1496 : BitVec 32 := Scalar.muli v1495 c128_i32_755
  v1496
def k0_cond3 (i : grid0.Coords) : BitVec 1 :=
  let arg1 : BitVec 32 := BitVec.ofNat 32 (i 1).val
  let c1_i32 : BitVec 32 := 1#32
  let v1267 : BitVec 1 := Scalar.cmpi .eq arg1 c1_i32
  let v1268 : BitVec 32 := Scalar.extui v1267
  let c0_i32_655 : BitVec 32 := 0#32
  let v1269 : BitVec 1 := Scalar.cmpi .ne v1268 c0_i32_655
  v1269

@[reducible] def k0_t2_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off15 (k0_t2 : Fin k0_t2_loop.trips) : Fin 3 → Nat :=
  let c0_i32_662 : BitVec 32 := 0#32
  let c1_i32_663 : BitVec 32 := 1#32
  let arg14 : BitVec 32 := Scf.iv c0_i32_662 c1_i32_663 k0_t2
  let v1285 : Index := Scalar.indexCast arg14
  let c0_665 : Index := 0#32
  let c0_666 : Index := 0#32
  ![v1285.toNat, 0, 0]
def k0_off16 (k0_t2 : Fin k0_t2_loop.trips) : Fin 3 → Nat :=
  let c0_i32_662 : BitVec 32 := 0#32
  let c1_i32_663 : BitVec 32 := 1#32
  let arg14 : BitVec 32 := Scf.iv c0_i32_662 c1_i32_663 k0_t2
  let v1288 : Index := Scalar.indexCast arg14
  let c0_667 : Index := 0#32
  let c0_668 : Index := 0#32
  ![v1288.toNat, 0, 0]
def k0_off17 (i : grid0.Coords) (k0_t2 : Fin k0_t2_loop.trips) (c0_i32_671 : BitVec 32) : Fin 3 → Nat :=
  let c1_672 : Index := 1#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t2
  let c5_i32_670 : BitVec 32 := 5#32
  let v1292 : BitVec 32 := Scalar.muli arg14 c5_i32_670
  let v1293 : BitVec 32 := Scalar.addi v1292 c0_i32_671
  let v1295 : Index := Scalar.indexCast v1293
  ![1, v1294.toNat, v1295.toNat]
def k0_off18 (i : grid0.Coords) (k0_t2 : Fin k0_t2_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t2
  let v1298 : Index := Scalar.indexCast arg14
  ![0, v1297.toNat, v1298.toNat]
def k0_off19 (i : grid0.Coords) (k0_t2 : Fin k0_t2_loop.trips) : Fin 3 → Nat :=
  let c1_681 : Index := 1#32
  let arg0 : BitVec 32 := BitVec.ofNat 32 (i 0).val
  let v1320 : Index := Scalar.indexCast arg0
  let c0_i32_662 : BitVec 32 := 0#32
  let c1_i32_663 : BitVec 32 := 1#32
  let arg14 : BitVec 32 := Scf.iv c0_i32_662 c1_i32_663 k0_t2
  let v1321 : Index := Scalar.indexCast arg14
  ![1, v1320.toNat, v1321.toNat]
def k0_off20 (k0_t2 : Fin k0_t2_loop.trips) : Fin 2 → Nat :=
  let c0_i32_662 : BitVec 32 := 0#32
  let c1_i32_663 : BitVec 32 := 1#32
  let arg14 : BitVec 32 := Scf.iv c0_i32_662 c1_i32_663 k0_t2
  let v1562 : Index := Scalar.indexCast arg14
  let c0_772 : Index := 0#32
  ![v1562.toNat, 0]
def k0_mult7 (k0_t2 : Fin k0_t2_loop.trips) : BitVec 32 :=
  let c0_i32_662 : BitVec 32 := 0#32
  let c1_i32_663 : BitVec 32 := 1#32
  let arg14 : BitVec 32 := Scf.iv c0_i32_662 c1_i32_663 k0_t2
  let c5_i32_773 : BitVec 32 := 5#32
  let v1566 : BitVec 32 := Scalar.muli arg14 c5_i32_773
  let c0_i32_774 : BitVec 32 := 0#32
  let v1567 : BitVec 32 := Scalar.addi v1566 c0_i32_774
  let c128_i32_775 : BitVec 32 := 128#32
  let v1568 : BitVec 32 := Scalar.muli v1567 c128_i32_775
  v1568
def k0_off21 (k0_t2 : Fin k0_t2_loop.trips) (c0_i32_774 : BitVec 32) : Fin 3 → Nat :=
  let c0_776 : Index := 0#32
  let c0_777 : Index := 0#32
  let c0_i32_662 : BitVec 32 := 0#32
  let c1_i32_663 : BitVec 32 := 1#32
  let arg14 : BitVec 32 := Scf.iv c0_i32_662 c1_i32_663 k0_t2
  let c5_i32_773 : BitVec 32 := 5#32
  let v1566 : BitVec 32 := Scalar.muli arg14 c5_i32_773
  let v1567 : BitVec 32 := Scalar.addi v1566 c0_i32_774
  let c128_i32_775 : BitVec 32 := 128#32
  let v1568 : BitVec 32 := Scalar.muli v1567 c128_i32_775
  let v1569 : BitVec 32 := v1568
  let v1574 : Index := Scalar.indexCast v1569
  ![0, 0, v1574.toNat]
def k0_mult8 (k0_t2 : Fin k0_t2_loop.trips) : BitVec 32 :=
  let c0_i32_662 : BitVec 32 := 0#32
  let c1_i32_663 : BitVec 32 := 1#32
  let arg14 : BitVec 32 := Scf.iv c0_i32_662 c1_i32_663 k0_t2
  let c5_i32_778 : BitVec 32 := 5#32
  let v1578 : BitVec 32 := Scalar.muli arg14 c5_i32_778
  let c1_i32_779 : BitVec 32 := 1#32
  let v1579 : BitVec 32 := Scalar.addi v1578 c1_i32_779
  let c128_i32_780 : BitVec 32 := 128#32
  let v1580 : BitVec 32 := Scalar.muli v1579 c128_i32_780
  v1580
def k0_mult9 (k0_t2 : Fin k0_t2_loop.trips) : BitVec 32 :=
  let c0_i32_662 : BitVec 32 := 0#32
  let c1_i32_663 : BitVec 32 := 1#32
  let arg14 : BitVec 32 := Scf.iv c0_i32_662 c1_i32_663 k0_t2
  let c5_i32_783 : BitVec 32 := 5#32
  let v1590 : BitVec 32 := Scalar.muli arg14 c5_i32_783
  let c2_i32_784 : BitVec 32 := 2#32
  let v1591 : BitVec 32 := Scalar.addi v1590 c2_i32_784
  let c128_i32_785 : BitVec 32 := 128#32
  let v1592 : BitVec 32 := Scalar.muli v1591 c128_i32_785
  v1592
def k0_mult10 (k0_t2 : Fin k0_t2_loop.trips) : BitVec 32 :=
  let c0_i32_662 : BitVec 32 := 0#32
  let c1_i32_663 : BitVec 32 := 1#32
  let arg14 : BitVec 32 := Scf.iv c0_i32_662 c1_i32_663 k0_t2
  let c5_i32_788 : BitVec 32 := 5#32
  let v1602 : BitVec 32 := Scalar.muli arg14 c5_i32_788
  let c3_i32_789 : BitVec 32 := 3#32
  let v1603 : BitVec 32 := Scalar.addi v1602 c3_i32_789
  let c128_i32_790 : BitVec 32 := 128#32
  let v1604 : BitVec 32 := Scalar.muli v1603 c128_i32_790
  v1604
def k0_mult11 (k0_t2 : Fin k0_t2_loop.trips) : BitVec 32 :=
  let c0_i32_662 : BitVec 32 := 0#32
  let c1_i32_663 : BitVec 32 := 1#32
  let arg14 : BitVec 32 := Scf.iv c0_i32_662 c1_i32_663 k0_t2
  let c5_i32_793 : BitVec 32 := 5#32
  let v1614 : BitVec 32 := Scalar.muli arg14 c5_i32_793
  let c4_i32_794 : BitVec 32 := 4#32
  let v1615 : BitVec 32 := Scalar.addi v1614 c4_i32_794
  let c128_i32_795 : BitVec 32 := 128#32
  let v1616 : BitVec 32 := Scalar.muli v1615 c128_i32_795
  v1616
def k0_cond4 (i : grid0.Coords) : BitVec 1 :=
  let arg1 : BitVec 32 := BitVec.ofNat 32 (i 1).val
  let c2_i32 : BitVec 32 := 2#32
  let v1270 : BitVec 1 := Scalar.cmpi .eq arg1 c2_i32
  let v1271 : BitVec 32 := Scalar.extui v1270
  let c0_i32_656 : BitVec 32 := 0#32
  let v1272 : BitVec 1 := Scalar.cmpi .ne v1271 c0_i32_656
  v1272

@[reducible] def k0_t3_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off22 (k0_t3 : Fin k0_t3_loop.trips) : Fin 3 → Nat :=
  let c0_i32_662 : BitVec 32 := 0#32
  let c1_i32_663 : BitVec 32 := 1#32
  let arg14 : BitVec 32 := Scf.iv c0_i32_662 c1_i32_663 k0_t3
  let v1285 : Index := Scalar.indexCast arg14
  let c0_665 : Index := 0#32
  let c0_666 : Index := 0#32
  ![v1285.toNat, 0, 0]
def k0_off23 (k0_t3 : Fin k0_t3_loop.trips) : Fin 3 → Nat :=
  let c0_i32_662 : BitVec 32 := 0#32
  let c1_i32_663 : BitVec 32 := 1#32
  let arg14 : BitVec 32 := Scf.iv c0_i32_662 c1_i32_663 k0_t3
  let v1288 : Index := Scalar.indexCast arg14
  let c0_667 : Index := 0#32
  let c0_668 : Index := 0#32
  ![v1288.toNat, 0, 0]
def k0_off24 (i : grid0.Coords) (k0_t3 : Fin k0_t3_loop.trips) (c0_i32_671 : BitVec 32) : Fin 3 → Nat :=
  let c2_672 : Index := 2#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t3
  let c5_i32_670 : BitVec 32 := 5#32
  let v1292 : BitVec 32 := Scalar.muli arg14 c5_i32_670
  let v1293 : BitVec 32 := Scalar.addi v1292 c0_i32_671
  let v1295 : Index := Scalar.indexCast v1293
  ![2, v1294.toNat, v1295.toNat]
def k0_off25 (i : grid0.Coords) (k0_t3 : Fin k0_t3_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t3
  let v1298 : Index := Scalar.indexCast arg14
  ![0, v1297.toNat, v1298.toNat]
def k0_off26 (i : grid0.Coords) (k0_t3 : Fin k0_t3_loop.trips) : Fin 3 → Nat :=
  let c1_681 : Index := 1#32
  let arg0 : BitVec 32 := BitVec.ofNat 32 (i 0).val
  let v1320 : Index := Scalar.indexCast arg0
  let c0_i32_662 : BitVec 32 := 0#32
  let c1_i32_663 : BitVec 32 := 1#32
  let arg14 : BitVec 32 := Scf.iv c0_i32_662 c1_i32_663 k0_t3
  let v1321 : Index := Scalar.indexCast arg14
  ![1, v1320.toNat, v1321.toNat]
def k0_off27 (k0_t3 : Fin k0_t3_loop.trips) : Fin 3 → Nat :=
  let c0_i32_662 : BitVec 32 := 0#32
  let c1_i32_663 : BitVec 32 := 1#32
  let arg14 : BitVec 32 := Scf.iv c0_i32_662 c1_i32_663 k0_t3
  let v1532 : Index := Scalar.indexCast arg14
  let c256_753 : Index := 256#32
  let c0_754 : Index := 0#32
  ![v1532.toNat, 256, 0]
def k0_off28 (i : grid0.Coords) (k0_t3 : Fin k0_t3_loop.trips) : Fin 3 → Nat :=
  let c2_759 : Index := 2#32
  let arg0 : BitVec 32 := BitVec.ofNat 32 (i 0).val
  let v1541 : Index := Scalar.indexCast arg0
  let c0_i32_662 : BitVec 32 := 0#32
  let c1_i32_663 : BitVec 32 := 1#32
  let arg14 : BitVec 32 := Scf.iv c0_i32_662 c1_i32_663 k0_t3
  let v1542 : Index := Scalar.indexCast arg14
  ![2, v1541.toNat, v1542.toNat]
def k0_off29 (k0_t3 : Fin k0_t3_loop.trips) : Fin 2 → Nat :=
  let c0_i32_662 : BitVec 32 := 0#32
  let c1_i32_663 : BitVec 32 := 1#32
  let arg14 : BitVec 32 := Scf.iv c0_i32_662 c1_i32_663 k0_t3
  let v1687 : Index := Scalar.indexCast arg14
  let c0_818 : Index := 0#32
  ![v1687.toNat, 0]
def k0_mult12 (k0_t3 : Fin k0_t3_loop.trips) : BitVec 32 :=
  let c0_i32_662 : BitVec 32 := 0#32
  let c1_i32_663 : BitVec 32 := 1#32
  let arg14 : BitVec 32 := Scf.iv c0_i32_662 c1_i32_663 k0_t3
  let c5_i32_819 : BitVec 32 := 5#32
  let v1691 : BitVec 32 := Scalar.muli arg14 c5_i32_819
  let c0_i32_820 : BitVec 32 := 0#32
  let v1692 : BitVec 32 := Scalar.addi v1691 c0_i32_820
  let c128_i32_821 : BitVec 32 := 128#32
  let v1693 : BitVec 32 := Scalar.muli v1692 c128_i32_821
  v1693
def k0_off30 (k0_t3 : Fin k0_t3_loop.trips) (c0_i32_820 : BitVec 32) : Fin 3 → Nat :=
  let c0_822 : Index := 0#32
  let c0_823 : Index := 0#32
  let c0_i32_662 : BitVec 32 := 0#32
  let c1_i32_663 : BitVec 32 := 1#32
  let arg14 : BitVec 32 := Scf.iv c0_i32_662 c1_i32_663 k0_t3
  let c5_i32_819 : BitVec 32 := 5#32
  let v1691 : BitVec 32 := Scalar.muli arg14 c5_i32_819
  let v1692 : BitVec 32 := Scalar.addi v1691 c0_i32_820
  let c128_i32_821 : BitVec 32 := 128#32
  let v1693 : BitVec 32 := Scalar.muli v1692 c128_i32_821
  let v1694 : BitVec 32 := v1693
  let v1699 : Index := Scalar.indexCast v1694
  ![0, 0, v1699.toNat]
def k0_mult13 (k0_t3 : Fin k0_t3_loop.trips) : BitVec 32 :=
  let c0_i32_662 : BitVec 32 := 0#32
  let c1_i32_663 : BitVec 32 := 1#32
  let arg14 : BitVec 32 := Scf.iv c0_i32_662 c1_i32_663 k0_t3
  let c5_i32_824 : BitVec 32 := 5#32
  let v1703 : BitVec 32 := Scalar.muli arg14 c5_i32_824
  let c1_i32_825 : BitVec 32 := 1#32
  let v1704 : BitVec 32 := Scalar.addi v1703 c1_i32_825
  let c128_i32_826 : BitVec 32 := 128#32
  let v1705 : BitVec 32 := Scalar.muli v1704 c128_i32_826
  v1705
def k0_mult14 (k0_t3 : Fin k0_t3_loop.trips) : BitVec 32 :=
  let c0_i32_662 : BitVec 32 := 0#32
  let c1_i32_663 : BitVec 32 := 1#32
  let arg14 : BitVec 32 := Scf.iv c0_i32_662 c1_i32_663 k0_t3
  let c5_i32_829 : BitVec 32 := 5#32
  let v1715 : BitVec 32 := Scalar.muli arg14 c5_i32_829
  let c2_i32_830 : BitVec 32 := 2#32
  let v1716 : BitVec 32 := Scalar.addi v1715 c2_i32_830
  let c128_i32_831 : BitVec 32 := 128#32
  let v1717 : BitVec 32 := Scalar.muli v1716 c128_i32_831
  v1717
def k0_mult15 (k0_t3 : Fin k0_t3_loop.trips) : BitVec 32 :=
  let c0_i32_662 : BitVec 32 := 0#32
  let c1_i32_663 : BitVec 32 := 1#32
  let arg14 : BitVec 32 := Scf.iv c0_i32_662 c1_i32_663 k0_t3
  let c5_i32_834 : BitVec 32 := 5#32
  let v1727 : BitVec 32 := Scalar.muli arg14 c5_i32_834
  let c3_i32_835 : BitVec 32 := 3#32
  let v1728 : BitVec 32 := Scalar.addi v1727 c3_i32_835
  let c128_i32_836 : BitVec 32 := 128#32
  let v1729 : BitVec 32 := Scalar.muli v1728 c128_i32_836
  v1729
def k0_mult16 (k0_t3 : Fin k0_t3_loop.trips) : BitVec 32 :=
  let c0_i32_662 : BitVec 32 := 0#32
  let c1_i32_663 : BitVec 32 := 1#32
  let arg14 : BitVec 32 := Scf.iv c0_i32_662 c1_i32_663 k0_t3
  let c5_i32_839 : BitVec 32 := 5#32
  let v1739 : BitVec 32 := Scalar.muli arg14 c5_i32_839
  let c4_i32_840 : BitVec 32 := 4#32
  let v1740 : BitVec 32 := Scalar.addi v1739 c4_i32_840
  let c128_i32_841 : BitVec 32 := 128#32
  let v1741 : BitVec 32 := Scalar.muli v1740 c128_i32_841
  v1741
def k0_cond5 (i : grid0.Coords) : BitVec 1 :=
  let arg1 : BitVec 32 := BitVec.ofNat 32 (i 1).val
  let c3_i32 : BitVec 32 := 3#32
  let v1273 : BitVec 1 := Scalar.cmpi .eq arg1 c3_i32
  let v1274 : BitVec 32 := Scalar.extui v1273
  let c0_i32_657 : BitVec 32 := 0#32
  let v1275 : BitVec 1 := Scalar.cmpi .ne v1274 c0_i32_657
  v1275

@[reducible] def k0_t4_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off31 (k0_t4 : Fin k0_t4_loop.trips) : Fin 3 → Nat :=
  let c0_i32_662 : BitVec 32 := 0#32
  let c1_i32_663 : BitVec 32 := 1#32
  let arg14 : BitVec 32 := Scf.iv c0_i32_662 c1_i32_663 k0_t4
  let v1285 : Index := Scalar.indexCast arg14
  let c0_665 : Index := 0#32
  let c0_666 : Index := 0#32
  ![v1285.toNat, 0, 0]
def k0_off32 (k0_t4 : Fin k0_t4_loop.trips) : Fin 3 → Nat :=
  let c0_i32_662 : BitVec 32 := 0#32
  let c1_i32_663 : BitVec 32 := 1#32
  let arg14 : BitVec 32 := Scf.iv c0_i32_662 c1_i32_663 k0_t4
  let v1288 : Index := Scalar.indexCast arg14
  let c0_667 : Index := 0#32
  let c0_668 : Index := 0#32
  ![v1288.toNat, 0, 0]
def k0_off33 (i : grid0.Coords) (k0_t4 : Fin k0_t4_loop.trips) (c0_i32_671 : BitVec 32) : Fin 3 → Nat :=
  let c3_672 : Index := 3#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t4
  let c5_i32_670 : BitVec 32 := 5#32
  let v1292 : BitVec 32 := Scalar.muli arg14 c5_i32_670
  let v1293 : BitVec 32 := Scalar.addi v1292 c0_i32_671
  let v1295 : Index := Scalar.indexCast v1293
  ![3, v1294.toNat, v1295.toNat]
def k0_off34 (i : grid0.Coords) (k0_t4 : Fin k0_t4_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t4
  let v1298 : Index := Scalar.indexCast arg14
  ![0, v1297.toNat, v1298.toNat]
def k0_off35 (i : grid0.Coords) (k0_t4 : Fin k0_t4_loop.trips) : Fin 3 → Nat :=
  let c1_681 : Index := 1#32
  let arg0 : BitVec 32 := BitVec.ofNat 32 (i 0).val
  let v1320 : Index := Scalar.indexCast arg0
  let c0_i32_662 : BitVec 32 := 0#32
  let c1_i32_663 : BitVec 32 := 1#32
  let arg14 : BitVec 32 := Scf.iv c0_i32_662 c1_i32_663 k0_t4
  let v1321 : Index := Scalar.indexCast arg14
  ![1, v1320.toNat, v1321.toNat]
def k0_off36 (k0_t4 : Fin k0_t4_loop.trips) : Fin 3 → Nat :=
  let c0_i32_662 : BitVec 32 := 0#32
  let c1_i32_663 : BitVec 32 := 1#32
  let arg14 : BitVec 32 := Scf.iv c0_i32_662 c1_i32_663 k0_t4
  let v1532 : Index := Scalar.indexCast arg14
  let c256_753 : Index := 256#32
  let c0_754 : Index := 0#32
  ![v1532.toNat, 256, 0]
def k0_off37 (i : grid0.Coords) (k0_t4 : Fin k0_t4_loop.trips) : Fin 3 → Nat :=
  let c2_759 : Index := 2#32
  let arg0 : BitVec 32 := BitVec.ofNat 32 (i 0).val
  let v1541 : Index := Scalar.indexCast arg0
  let c0_i32_662 : BitVec 32 := 0#32
  let c1_i32_663 : BitVec 32 := 1#32
  let arg14 : BitVec 32 := Scf.iv c0_i32_662 c1_i32_663 k0_t4
  let v1542 : Index := Scalar.indexCast arg14
  ![2, v1541.toNat, v1542.toNat]
def k0_off38 (i : grid0.Coords) (k0_t4 : Fin k0_t4_loop.trips) : Fin 3 → Nat :=
  let c3_767 : Index := 3#32
  let arg0 : BitVec 32 := BitVec.ofNat 32 (i 0).val
  let v1564 : Index := Scalar.indexCast arg0
  let c0_i32_662 : BitVec 32 := 0#32
  let c1_i32_663 : BitVec 32 := 1#32
  let arg14 : BitVec 32 := Scf.iv c0_i32_662 c1_i32_663 k0_t4
  let v1565 : Index := Scalar.indexCast arg14
  ![3, v1564.toNat, v1565.toNat]
def k0_off39 (k0_t4 : Fin k0_t4_loop.trips) : Fin 2 → Nat :=
  let c0_i32_662 : BitVec 32 := 0#32
  let c1_i32_663 : BitVec 32 := 1#32
  let arg14 : BitVec 32 := Scf.iv c0_i32_662 c1_i32_663 k0_t4
  let v1807 : Index := Scalar.indexCast arg14
  let c0_858 : Index := 0#32
  ![v1807.toNat, 0]
def k0_mult17 (k0_t4 : Fin k0_t4_loop.trips) : BitVec 32 :=
  let c0_i32_662 : BitVec 32 := 0#32
  let c1_i32_663 : BitVec 32 := 1#32
  let arg14 : BitVec 32 := Scf.iv c0_i32_662 c1_i32_663 k0_t4
  let c5_i32_859 : BitVec 32 := 5#32
  let v1811 : BitVec 32 := Scalar.muli arg14 c5_i32_859
  let c0_i32_860 : BitVec 32 := 0#32
  let v1812 : BitVec 32 := Scalar.addi v1811 c0_i32_860
  let c128_i32_861 : BitVec 32 := 128#32
  let v1813 : BitVec 32 := Scalar.muli v1812 c128_i32_861
  v1813
def k0_off40 (k0_t4 : Fin k0_t4_loop.trips) (c0_i32_860 : BitVec 32) : Fin 3 → Nat :=
  let c0_862 : Index := 0#32
  let c0_863 : Index := 0#32
  let c0_i32_662 : BitVec 32 := 0#32
  let c1_i32_663 : BitVec 32 := 1#32
  let arg14 : BitVec 32 := Scf.iv c0_i32_662 c1_i32_663 k0_t4
  let c5_i32_859 : BitVec 32 := 5#32
  let v1811 : BitVec 32 := Scalar.muli arg14 c5_i32_859
  let v1812 : BitVec 32 := Scalar.addi v1811 c0_i32_860
  let c128_i32_861 : BitVec 32 := 128#32
  let v1813 : BitVec 32 := Scalar.muli v1812 c128_i32_861
  let v1814 : BitVec 32 := v1813
  let v1819 : Index := Scalar.indexCast v1814
  ![0, 0, v1819.toNat]
def k0_mult18 (k0_t4 : Fin k0_t4_loop.trips) : BitVec 32 :=
  let c0_i32_662 : BitVec 32 := 0#32
  let c1_i32_663 : BitVec 32 := 1#32
  let arg14 : BitVec 32 := Scf.iv c0_i32_662 c1_i32_663 k0_t4
  let c5_i32_864 : BitVec 32 := 5#32
  let v1823 : BitVec 32 := Scalar.muli arg14 c5_i32_864
  let c1_i32_865 : BitVec 32 := 1#32
  let v1824 : BitVec 32 := Scalar.addi v1823 c1_i32_865
  let c128_i32_866 : BitVec 32 := 128#32
  let v1825 : BitVec 32 := Scalar.muli v1824 c128_i32_866
  v1825
def k0_mult19 (k0_t4 : Fin k0_t4_loop.trips) : BitVec 32 :=
  let c0_i32_662 : BitVec 32 := 0#32
  let c1_i32_663 : BitVec 32 := 1#32
  let arg14 : BitVec 32 := Scf.iv c0_i32_662 c1_i32_663 k0_t4
  let c5_i32_869 : BitVec 32 := 5#32
  let v1835 : BitVec 32 := Scalar.muli arg14 c5_i32_869
  let c2_i32_870 : BitVec 32 := 2#32
  let v1836 : BitVec 32 := Scalar.addi v1835 c2_i32_870
  let c128_i32_871 : BitVec 32 := 128#32
  let v1837 : BitVec 32 := Scalar.muli v1836 c128_i32_871
  v1837
def k0_mult20 (k0_t4 : Fin k0_t4_loop.trips) : BitVec 32 :=
  let c0_i32_662 : BitVec 32 := 0#32
  let c1_i32_663 : BitVec 32 := 1#32
  let arg14 : BitVec 32 := Scf.iv c0_i32_662 c1_i32_663 k0_t4
  let c5_i32_874 : BitVec 32 := 5#32
  let v1847 : BitVec 32 := Scalar.muli arg14 c5_i32_874
  let c3_i32_875 : BitVec 32 := 3#32
  let v1848 : BitVec 32 := Scalar.addi v1847 c3_i32_875
  let c128_i32_876 : BitVec 32 := 128#32
  let v1849 : BitVec 32 := Scalar.muli v1848 c128_i32_876
  v1849
def k0_mult21 (k0_t4 : Fin k0_t4_loop.trips) : BitVec 32 :=
  let c0_i32_662 : BitVec 32 := 0#32
  let c1_i32_663 : BitVec 32 := 1#32
  let arg14 : BitVec 32 := Scf.iv c0_i32_662 c1_i32_663 k0_t4
  let c5_i32_879 : BitVec 32 := 5#32
  let v1859 : BitVec 32 := Scalar.muli arg14 c5_i32_879
  let c4_i32_880 : BitVec 32 := 4#32
  let v1860 : BitVec 32 := Scalar.addi v1859 c4_i32_880
  let c128_i32_881 : BitVec 32 := 128#32
  let v1861 : BitVec 32 := Scalar.muli v1860 c128_i32_881
  v1861
def k0_cond6 (i : grid0.Coords) : BitVec 1 :=
  let arg1 : BitVec 32 := BitVec.ofNat 32 (i 1).val
  let c4_i32 : BitVec 32 := 4#32
  let v1276 : BitVec 1 := Scalar.cmpi .eq arg1 c4_i32
  let v1277 : BitVec 32 := Scalar.extui v1276
  let c0_i32_658 : BitVec 32 := 0#32
  let v1278 : BitVec 1 := Scalar.cmpi .ne v1277 c0_i32_658
  v1278

@[reducible] def k0_t5_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off41 (k0_t5 : Fin k0_t5_loop.trips) : Fin 3 → Nat :=
  let c0_i32_662 : BitVec 32 := 0#32
  let c1_i32_663 : BitVec 32 := 1#32
  let arg14 : BitVec 32 := Scf.iv c0_i32_662 c1_i32_663 k0_t5
  let v1285 : Index := Scalar.indexCast arg14
  let c0_665 : Index := 0#32
  let c0_666 : Index := 0#32
  ![v1285.toNat, 0, 0]
def k0_off42 (k0_t5 : Fin k0_t5_loop.trips) : Fin 3 → Nat :=
  let c0_i32_662 : BitVec 32 := 0#32
  let c1_i32_663 : BitVec 32 := 1#32
  let arg14 : BitVec 32 := Scf.iv c0_i32_662 c1_i32_663 k0_t5
  let v1288 : Index := Scalar.indexCast arg14
  let c0_667 : Index := 0#32
  let c0_668 : Index := 0#32
  ![v1288.toNat, 0, 0]
def k0_off43 (i : grid0.Coords) (k0_t5 : Fin k0_t5_loop.trips) (c0_i32_671 : BitVec 32) : Fin 3 → Nat :=
  let c4_672 : Index := 4#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t5
  let c5_i32_670 : BitVec 32 := 5#32
  let v1292 : BitVec 32 := Scalar.muli arg14 c5_i32_670
  let v1293 : BitVec 32 := Scalar.addi v1292 c0_i32_671
  let v1295 : Index := Scalar.indexCast v1293
  ![4, v1294.toNat, v1295.toNat]
def k0_off44 (i : grid0.Coords) (k0_t5 : Fin k0_t5_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t5
  let v1298 : Index := Scalar.indexCast arg14
  ![0, v1297.toNat, v1298.toNat]
def k0_off45 (i : grid0.Coords) (k0_t5 : Fin k0_t5_loop.trips) : Fin 3 → Nat :=
  let c1_681 : Index := 1#32
  let arg0 : BitVec 32 := BitVec.ofNat 32 (i 0).val
  let v1320 : Index := Scalar.indexCast arg0
  let c0_i32_662 : BitVec 32 := 0#32
  let c1_i32_663 : BitVec 32 := 1#32
  let arg14 : BitVec 32 := Scf.iv c0_i32_662 c1_i32_663 k0_t5
  let v1321 : Index := Scalar.indexCast arg14
  ![1, v1320.toNat, v1321.toNat]
def k0_off46 (k0_t5 : Fin k0_t5_loop.trips) : Fin 3 → Nat :=
  let c0_i32_662 : BitVec 32 := 0#32
  let c1_i32_663 : BitVec 32 := 1#32
  let arg14 : BitVec 32 := Scf.iv c0_i32_662 c1_i32_663 k0_t5
  let v1532 : Index := Scalar.indexCast arg14
  let c256_753 : Index := 256#32
  let c0_754 : Index := 0#32
  ![v1532.toNat, 256, 0]
def k0_off47 (i : grid0.Coords) (k0_t5 : Fin k0_t5_loop.trips) : Fin 3 → Nat :=
  let c2_759 : Index := 2#32
  let arg0 : BitVec 32 := BitVec.ofNat 32 (i 0).val
  let v1541 : Index := Scalar.indexCast arg0
  let c0_i32_662 : BitVec 32 := 0#32
  let c1_i32_663 : BitVec 32 := 1#32
  let arg14 : BitVec 32 := Scf.iv c0_i32_662 c1_i32_663 k0_t5
  let v1542 : Index := Scalar.indexCast arg14
  ![2, v1541.toNat, v1542.toNat]
def k0_off48 (i : grid0.Coords) (k0_t5 : Fin k0_t5_loop.trips) : Fin 3 → Nat :=
  let c3_767 : Index := 3#32
  let arg0 : BitVec 32 := BitVec.ofNat 32 (i 0).val
  let v1564 : Index := Scalar.indexCast arg0
  let c0_i32_662 : BitVec 32 := 0#32
  let c1_i32_663 : BitVec 32 := 1#32
  let arg14 : BitVec 32 := Scf.iv c0_i32_662 c1_i32_663 k0_t5
  let v1565 : Index := Scalar.indexCast arg14
  ![3, v1564.toNat, v1565.toNat]
def k0_off49 (k0_t5 : Fin k0_t5_loop.trips) : Fin 3 → Nat :=
  let c0_i32_662 : BitVec 32 := 0#32
  let c1_i32_663 : BitVec 32 := 1#32
  let arg14 : BitVec 32 := Scf.iv c0_i32_662 c1_i32_663 k0_t5
  let v1777 : Index := Scalar.indexCast arg14
  let c512_839 : Index := 512#32
  let c0_840 : Index := 0#32
  ![v1777.toNat, 512, 0]
def k0_off50 (i : grid0.Coords) (k0_t5 : Fin k0_t5_loop.trips) : Fin 3 → Nat :=
  let c4_845 : Index := 4#32
  let arg0 : BitVec 32 := BitVec.ofNat 32 (i 0).val
  let v1786 : Index := Scalar.indexCast arg0
  let c0_i32_662 : BitVec 32 := 0#32
  let c1_i32_663 : BitVec 32 := 1#32
  let arg14 : BitVec 32 := Scf.iv c0_i32_662 c1_i32_663 k0_t5
  let v1787 : Index := Scalar.indexCast arg14
  ![4, v1786.toNat, v1787.toNat]
def k0_off51 (k0_t5 : Fin k0_t5_loop.trips) : Fin 2 → Nat :=
  let c0_i32_662 : BitVec 32 := 0#32
  let c1_i32_663 : BitVec 32 := 1#32
  let arg14 : BitVec 32 := Scf.iv c0_i32_662 c1_i32_663 k0_t5
  let v1932 : Index := Scalar.indexCast arg14
  let c0_904 : Index := 0#32
  ![v1932.toNat, 0]
def k0_mult22 (k0_t5 : Fin k0_t5_loop.trips) : BitVec 32 :=
  let c0_i32_662 : BitVec 32 := 0#32
  let c1_i32_663 : BitVec 32 := 1#32
  let arg14 : BitVec 32 := Scf.iv c0_i32_662 c1_i32_663 k0_t5
  let c5_i32_905 : BitVec 32 := 5#32
  let v1936 : BitVec 32 := Scalar.muli arg14 c5_i32_905
  let c0_i32_906 : BitVec 32 := 0#32
  let v1937 : BitVec 32 := Scalar.addi v1936 c0_i32_906
  let c128_i32_907 : BitVec 32 := 128#32
  let v1938 : BitVec 32 := Scalar.muli v1937 c128_i32_907
  v1938
def k0_off52 (k0_t5 : Fin k0_t5_loop.trips) (c0_i32_906 : BitVec 32) : Fin 3 → Nat :=
  let c0_908 : Index := 0#32
  let c0_909 : Index := 0#32
  let c0_i32_662 : BitVec 32 := 0#32
  let c1_i32_663 : BitVec 32 := 1#32
  let arg14 : BitVec 32 := Scf.iv c0_i32_662 c1_i32_663 k0_t5
  let c5_i32_905 : BitVec 32 := 5#32
  let v1936 : BitVec 32 := Scalar.muli arg14 c5_i32_905
  let v1937 : BitVec 32 := Scalar.addi v1936 c0_i32_906
  let c128_i32_907 : BitVec 32 := 128#32
  let v1938 : BitVec 32 := Scalar.muli v1937 c128_i32_907
  let v1939 : BitVec 32 := v1938
  let v1944 : Index := Scalar.indexCast v1939
  ![0, 0, v1944.toNat]
def k0_mult23 (k0_t5 : Fin k0_t5_loop.trips) : BitVec 32 :=
  let c0_i32_662 : BitVec 32 := 0#32
  let c1_i32_663 : BitVec 32 := 1#32
  let arg14 : BitVec 32 := Scf.iv c0_i32_662 c1_i32_663 k0_t5
  let c5_i32_910 : BitVec 32 := 5#32
  let v1948 : BitVec 32 := Scalar.muli arg14 c5_i32_910
  let c1_i32_911 : BitVec 32 := 1#32
  let v1949 : BitVec 32 := Scalar.addi v1948 c1_i32_911
  let c128_i32_912 : BitVec 32 := 128#32
  let v1950 : BitVec 32 := Scalar.muli v1949 c128_i32_912
  v1950
def k0_mult24 (k0_t5 : Fin k0_t5_loop.trips) : BitVec 32 :=
  let c0_i32_662 : BitVec 32 := 0#32
  let c1_i32_663 : BitVec 32 := 1#32
  let arg14 : BitVec 32 := Scf.iv c0_i32_662 c1_i32_663 k0_t5
  let c5_i32_915 : BitVec 32 := 5#32
  let v1960 : BitVec 32 := Scalar.muli arg14 c5_i32_915
  let c2_i32_916 : BitVec 32 := 2#32
  let v1961 : BitVec 32 := Scalar.addi v1960 c2_i32_916
  let c128_i32_917 : BitVec 32 := 128#32
  let v1962 : BitVec 32 := Scalar.muli v1961 c128_i32_917
  v1962
def k0_mult25 (k0_t5 : Fin k0_t5_loop.trips) : BitVec 32 :=
  let c0_i32_662 : BitVec 32 := 0#32
  let c1_i32_663 : BitVec 32 := 1#32
  let arg14 : BitVec 32 := Scf.iv c0_i32_662 c1_i32_663 k0_t5
  let c5_i32_920 : BitVec 32 := 5#32
  let v1972 : BitVec 32 := Scalar.muli arg14 c5_i32_920
  let c3_i32_921 : BitVec 32 := 3#32
  let v1973 : BitVec 32 := Scalar.addi v1972 c3_i32_921
  let c128_i32_922 : BitVec 32 := 128#32
  let v1974 : BitVec 32 := Scalar.muli v1973 c128_i32_922
  v1974
def k0_mult26 (k0_t5 : Fin k0_t5_loop.trips) : BitVec 32 :=
  let c0_i32_662 : BitVec 32 := 0#32
  let c1_i32_663 : BitVec 32 := 1#32
  let arg14 : BitVec 32 := Scf.iv c0_i32_662 c1_i32_663 k0_t5
  let c5_i32_925 : BitVec 32 := 5#32
  let v1984 : BitVec 32 := Scalar.muli arg14 c5_i32_925
  let c4_i32_926 : BitVec 32 := 4#32
  let v1985 : BitVec 32 := Scalar.addi v1984 c4_i32_926
  let c128_i32_927 : BitVec 32 := 128#32
  let v1986 : BitVec 32 := Scalar.muli v1985 c128_i32_927
  v1986
def k0_cond7 (i : grid0.Coords) : BitVec 1 :=
  let arg1 : BitVec 32 := BitVec.ofNat 32 (i 1).val
  let c5_i32 : BitVec 32 := 5#32
  let v1279 : BitVec 1 := Scalar.cmpi .eq arg1 c5_i32
  let v1280 : BitVec 32 := Scalar.extui v1279
  let c0_i32_659 : BitVec 32 := 0#32
  let v1281 : BitVec 1 := Scalar.cmpi .ne v1280 c0_i32_659
  v1281

@[reducible] def k0_t6_loop : Scf.Loop 32 :=
  let c0_i32_662 : BitVec 32 := 0#32
  let c8_i32 : BitVec 32 := 8#32
  let v1284 : BitVec 32 := Scalar.addi c0_i32_662 c8_i32
  let c1_i32_663 : BitVec 32 := 1#32
  ⟨c0_i32_662, v1284, c1_i32_663⟩
def k0_off53 (k0_t6 : Fin k0_t6_loop.trips) : Fin 3 → Nat :=
  let c0_i32_662 : BitVec 32 := 0#32
  let c1_i32_663 : BitVec 32 := 1#32
  let arg14 : BitVec 32 := Scf.iv c0_i32_662 c1_i32_663 k0_t6
  let v1285 : Index := Scalar.indexCast arg14
  let c0_665 : Index := 0#32
  let c0_666 : Index := 0#32
  ![v1285.toNat, 0, 0]
def k0_off54 (k0_t6 : Fin k0_t6_loop.trips) : Fin 3 → Nat :=
  let c0_i32_662 : BitVec 32 := 0#32
  let c1_i32_663 : BitVec 32 := 1#32
  let arg14 : BitVec 32 := Scf.iv c0_i32_662 c1_i32_663 k0_t6
  let v1288 : Index := Scalar.indexCast arg14
  let c0_667 : Index := 0#32
  let c0_668 : Index := 0#32
  ![v1288.toNat, 0, 0]
def k0_off55 (i : grid0.Coords) (k0_t6 : Fin k0_t6_loop.trips) (c0_i32_671 : BitVec 32) : Fin 3 → Nat :=
  let c5_672 : Index := 5#32
  let arg0 : BitVec 32 := BitVec.ofNat 32 (i 0).val
  let v1294 : Index := Scalar.indexCast arg0
  let c0_i32_662 : BitVec 32 := 0#32
  let c1_i32_663 : BitVec 32 := 1#32
  let arg14 : BitVec 32 := Scf.iv c0_i32_662 c1_i32_663 k0_t6
  let c5_i32_670 : BitVec 32 := 5#32
  let v1292 : BitVec 32 := Scalar.muli arg14 c5_i32_670
  let v1293 : BitVec 32 := Scalar.addi v1292 c0_i32_671
  let v1295 : Index := Scalar.indexCast v1293
  ![5, v1294.toNat, v1295.toNat]
def k0_off56 (i : grid0.Coords) (k0_t6 : Fin k0_t6_loop.trips) : Fin 3 → Nat :=
  let c0_673 : Index := 0#32
  let arg0 : BitVec 32 := BitVec.ofNat 32 (i 0).val
  let v1297 : Index := Scalar.indexCast arg0
  let c0_i32_662 : BitVec 32 := 0#32
  let c1_i32_663 : BitVec 32 := 1#32
  let arg14 : BitVec 32 := Scf.iv c0_i32_662 c1_i32_663 k0_t6
  let v1298 : Index := Scalar.indexCast arg14
  ![0, v1297.toNat, v1298.toNat]
def k0_off57 (i : grid0.Coords) (k0_t6 : Fin k0_t6_loop.trips) : Fin 3 → Nat :=
  let c1_681 : Index := 1#32
  let arg0 : BitVec 32 := BitVec.ofNat 32 (i 0).val
  let v1320 : Index := Scalar.indexCast arg0
  let c0_i32_662 : BitVec 32 := 0#32
  let c1_i32_663 : BitVec 32 := 1#32
  let arg14 : BitVec 32 := Scf.iv c0_i32_662 c1_i32_663 k0_t6
  let v1321 : Index := Scalar.indexCast arg14
  ![1, v1320.toNat, v1321.toNat]
def k0_off58 (k0_t6 : Fin k0_t6_loop.trips) : Fin 3 → Nat :=
  let c0_i32_662 : BitVec 32 := 0#32
  let c1_i32_663 : BitVec 32 := 1#32
  let arg14 : BitVec 32 := Scf.iv c0_i32_662 c1_i32_663 k0_t6
  let v1532 : Index := Scalar.indexCast arg14
  let c256_753 : Index := 256#32
  let c0_754 : Index := 0#32
  ![v1532.toNat, 256, 0]
def k0_off59 (i : grid0.Coords) (k0_t6 : Fin k0_t6_loop.trips) : Fin 3 → Nat :=
  let c2_759 : Index := 2#32
  let arg0 : BitVec 32 := BitVec.ofNat 32 (i 0).val
  let v1541 : Index := Scalar.indexCast arg0
  let c0_i32_662 : BitVec 32 := 0#32
  let c1_i32_663 : BitVec 32 := 1#32
  let arg14 : BitVec 32 := Scf.iv c0_i32_662 c1_i32_663 k0_t6
  let v1542 : Index := Scalar.indexCast arg14
  ![2, v1541.toNat, v1542.toNat]
def k0_off60 (i : grid0.Coords) (k0_t6 : Fin k0_t6_loop.trips) : Fin 3 → Nat :=
  let c3_767 : Index := 3#32
  let arg0 : BitVec 32 := BitVec.ofNat 32 (i 0).val
  let v1564 : Index := Scalar.indexCast arg0
  let c0_i32_662 : BitVec 32 := 0#32
  let c1_i32_663 : BitVec 32 := 1#32
  let arg14 : BitVec 32 := Scf.iv c0_i32_662 c1_i32_663 k0_t6
  let v1565 : Index := Scalar.indexCast arg14
  ![3, v1564.toNat, v1565.toNat]
def k0_off61 (k0_t6 : Fin k0_t6_loop.trips) : Fin 3 → Nat :=
  let c0_i32_662 : BitVec 32 := 0#32
  let c1_i32_663 : BitVec 32 := 1#32
  let arg14 : BitVec 32 := Scf.iv c0_i32_662 c1_i32_663 k0_t6
  let v1777 : Index := Scalar.indexCast arg14
  let c512_839 : Index := 512#32
  let c0_840 : Index := 0#32
  ![v1777.toNat, 512, 0]
def k0_off62 (i : grid0.Coords) (k0_t6 : Fin k0_t6_loop.trips) : Fin 3 → Nat :=
  let c4_845 : Index := 4#32
  let arg0 : BitVec 32 := BitVec.ofNat 32 (i 0).val
  let v1786 : Index := Scalar.indexCast arg0
  let c0_i32_662 : BitVec 32 := 0#32
  let c1_i32_663 : BitVec 32 := 1#32
  let arg14 : BitVec 32 := Scf.iv c0_i32_662 c1_i32_663 k0_t6
  let v1787 : Index := Scalar.indexCast arg14
  ![4, v1786.toNat, v1787.toNat]
def k0_off63 (i : grid0.Coords) (k0_t6 : Fin k0_t6_loop.trips) : Fin 3 → Nat :=
  let c5_853 : Index := 5#32
  let arg0 : BitVec 32 := BitVec.ofNat 32 (i 0).val
  let v1809 : Index := Scalar.indexCast arg0
  let c0_i32_662 : BitVec 32 := 0#32
  let c1_i32_663 : BitVec 32 := 1#32
  let arg14 : BitVec 32 := Scf.iv c0_i32_662 c1_i32_663 k0_t6
  let v1810 : Index := Scalar.indexCast arg14
  ![5, v1809.toNat, v1810.toNat]
def k0_off64 (k0_t6 : Fin k0_t6_loop.trips) : Fin 2 → Nat :=
  let c0_i32_662 : BitVec 32 := 0#32
  let c1_i32_663 : BitVec 32 := 1#32
  let arg14 : BitVec 32 := Scf.iv c0_i32_662 c1_i32_663 k0_t6
  let v2052 : Index := Scalar.indexCast arg14
  let c0_944 : Index := 0#32
  ![v2052.toNat, 0]
def k0_mult27 (k0_t6 : Fin k0_t6_loop.trips) : BitVec 32 :=
  let c0_i32_662 : BitVec 32 := 0#32
  let c1_i32_663 : BitVec 32 := 1#32
  let arg14 : BitVec 32 := Scf.iv c0_i32_662 c1_i32_663 k0_t6
  let c5_i32_945 : BitVec 32 := 5#32
  let v2056 : BitVec 32 := Scalar.muli arg14 c5_i32_945
  let c0_i32_946 : BitVec 32 := 0#32
  let v2057 : BitVec 32 := Scalar.addi v2056 c0_i32_946
  let c128_i32_947 : BitVec 32 := 128#32
  let v2058 : BitVec 32 := Scalar.muli v2057 c128_i32_947
  v2058
def k0_off65 (k0_t6 : Fin k0_t6_loop.trips) (c0_i32_946 : BitVec 32) : Fin 3 → Nat :=
  let c0_948 : Index := 0#32
  let c0_949 : Index := 0#32
  let c0_i32_662 : BitVec 32 := 0#32
  let c1_i32_663 : BitVec 32 := 1#32
  let arg14 : BitVec 32 := Scf.iv c0_i32_662 c1_i32_663 k0_t6
  let c5_i32_945 : BitVec 32 := 5#32
  let v2056 : BitVec 32 := Scalar.muli arg14 c5_i32_945
  let v2057 : BitVec 32 := Scalar.addi v2056 c0_i32_946
  let c128_i32_947 : BitVec 32 := 128#32
  let v2058 : BitVec 32 := Scalar.muli v2057 c128_i32_947
  let v2059 : BitVec 32 := v2058
  let v2064 : Index := Scalar.indexCast v2059
  ![0, 0, v2064.toNat]
def k0_mult28 (k0_t6 : Fin k0_t6_loop.trips) : BitVec 32 :=
  let c0_i32_662 : BitVec 32 := 0#32
  let c1_i32_663 : BitVec 32 := 1#32
  let arg14 : BitVec 32 := Scf.iv c0_i32_662 c1_i32_663 k0_t6
  let c5_i32_950 : BitVec 32 := 5#32
  let v2068 : BitVec 32 := Scalar.muli arg14 c5_i32_950
  let c1_i32_951 : BitVec 32 := 1#32
  let v2069 : BitVec 32 := Scalar.addi v2068 c1_i32_951
  let c128_i32_952 : BitVec 32 := 128#32
  let v2070 : BitVec 32 := Scalar.muli v2069 c128_i32_952
  v2070
def k0_mult29 (k0_t6 : Fin k0_t6_loop.trips) : BitVec 32 :=
  let c0_i32_662 : BitVec 32 := 0#32
  let c1_i32_663 : BitVec 32 := 1#32
  let arg14 : BitVec 32 := Scf.iv c0_i32_662 c1_i32_663 k0_t6
  let c5_i32_955 : BitVec 32 := 5#32
  let v2080 : BitVec 32 := Scalar.muli arg14 c5_i32_955
  let c2_i32_956 : BitVec 32 := 2#32
  let v2081 : BitVec 32 := Scalar.addi v2080 c2_i32_956
  let c128_i32_957 : BitVec 32 := 128#32
  let v2082 : BitVec 32 := Scalar.muli v2081 c128_i32_957
  v2082
def k0_mult30 (k0_t6 : Fin k0_t6_loop.trips) : BitVec 32 :=
  let c0_i32_662 : BitVec 32 := 0#32
  let c1_i32_663 : BitVec 32 := 1#32
  let arg14 : BitVec 32 := Scf.iv c0_i32_662 c1_i32_663 k0_t6
  let c5_i32_960 : BitVec 32 := 5#32
  let v2092 : BitVec 32 := Scalar.muli arg14 c5_i32_960
  let c3_i32_961 : BitVec 32 := 3#32
  let v2093 : BitVec 32 := Scalar.addi v2092 c3_i32_961
  let c128_i32_962 : BitVec 32 := 128#32
  let v2094 : BitVec 32 := Scalar.muli v2093 c128_i32_962
  v2094
def k0_mult31 (k0_t6 : Fin k0_t6_loop.trips) : BitVec 32 :=
  let c0_i32_662 : BitVec 32 := 0#32
  let c1_i32_663 : BitVec 32 := 1#32
  let arg14 : BitVec 32 := Scf.iv c0_i32_662 c1_i32_663 k0_t6
  let c5_i32_965 : BitVec 32 := 5#32
  let v2104 : BitVec 32 := Scalar.muli arg14 c5_i32_965
  let c4_i32_966 : BitVec 32 := 4#32
  let v2105 : BitVec 32 := Scalar.addi v2104 c4_i32_966
  let c128_i32_967 : BitVec 32 := 128#32
  let v2106 : BitVec 32 := Scalar.muli v2105 c128_i32_967
  v2106
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6x2x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x5120x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x768x40x128 : Shape := ⟨4, ![2, 768, 40, 128]⟩
abbrev S2x6x40 : Shape := ⟨3, ![2, 6, 40]⟩
abbrev S2x768x8x128 : Shape := ⟨4, ![2, 768, 8, 128]⟩
abbrev S2x6x8 : Shape := ⟨3, ![2, 6, 8]⟩
abbrev S8x128 : Shape := ⟨2, ![8, 128]⟩
abbrev S_ : Shape := ⟨0, ![]⟩
abbrev S2x768x8x5x128 : Shape := ⟨5, ![2, 768, 8, 5, 128]⟩
abbrev S2x8x5x768x128 : Shape := ⟨5, ![2, 8, 5, 768, 128]⟩
abbrev S2x8x768x128 : Shape := ⟨4, ![2, 8, 768, 128]⟩
abbrev S2x6x128x40 : Shape := ⟨4, ![2, 6, 128, 40]⟩
abbrev S2x768x40 : Shape := ⟨3, ![2, 768, 40]⟩
abbrev S2x768x8x5 : Shape := ⟨4, ![2, 768, 8, 5]⟩
abbrev S2x8x5x768 : Shape := ⟨4, ![2, 8, 5, 768]⟩
abbrev S2x6x128x8 : Shape := ⟨4, ![2, 6, 128, 8]⟩
abbrev S2x768x8 : Shape := ⟨3, ![2, 768, 8]⟩
abbrev S2x8x768 : Shape := ⟨3, ![2, 8, 768]⟩
abbrev S1x1 : Shape := ⟨2, ![1, 1]⟩
abbrev S2x768x5120 : Shape := ⟨3, ![2, 768, 5120]⟩
abbrev S2x8x5x768x768 : Shape := ⟨5, ![2, 8, 5, 768, 768]⟩
abbrev S2x8x5x768x1 : Shape := ⟨5, ![2, 8, 5, 768, 1]⟩
abbrev S2x8x1x1x768 : Shape := ⟨5, ![2, 8, 1, 1, 768]⟩
abbrev S1x768 : Shape := ⟨2, ![1, 768]⟩
abbrev S768 : Shape := ⟨1, ![768]⟩
abbrev S768x1 : Shape := ⟨2, ![768, 1]⟩
abbrev S768x768 : Shape := ⟨2, ![768, 768]⟩
abbrev S1x1x1x768x768 : Shape := ⟨5, ![1, 1, 1, 768, 768]⟩
abbrev S2x8x128x5x768 : Shape := ⟨5, ![2, 8, 128, 5, 768]⟩
abbrev S1x1x8x1x128 : Shape := ⟨5, ![1, 1, 8, 1, 128]⟩

abbrev nBuf : Space → Nat
  | .hbm => 20
  | .vmem => 8
  | .smem => 0
  | _ => 0

abbrev bufTy : (tb : Table) → Fin (tcTables nBuf tb) → BufTy
  | .hbm, ⟨0, _⟩ => ⟨S2x768x40x128, .fp8e4m3⟩
  | .hbm, ⟨1, _⟩ => ⟨S2x6x40, .f32⟩
  | .hbm, ⟨2, _⟩ => ⟨S2x768x8x128, .fp8e4m3⟩
  | .hbm, ⟨3, _⟩ => ⟨S2x6x8, .f32⟩
  | .hbm, ⟨4, _⟩ => ⟨S2x768x8x128, .fp8e4m3⟩
  | .hbm, ⟨5, _⟩ => ⟨S8x128, .f32⟩
  | .hbm, ⟨6, _⟩ => ⟨S_, .f32⟩
  | .hbm, ⟨7, _⟩ => ⟨S2x768x8x5x128, .fp8e4m3⟩
  | .hbm, ⟨8, _⟩ => ⟨S2x8x5x768x128, .fp8e4m3⟩
  | .hbm, ⟨9, _⟩ => ⟨S2x8x768x128, .fp8e4m3⟩
  | .hbm, ⟨10, _⟩ => ⟨S2x8x768x128, .fp8e4m3⟩
  | .hbm, ⟨11, _⟩ => ⟨S2x6x128x40, .f32⟩
  | .hbm, ⟨12, _⟩ => ⟨S2x768x40, .f32⟩
  | .hbm, ⟨13, _⟩ => ⟨S2x768x8x5, .f32⟩
  | .hbm, ⟨14, _⟩ => ⟨S2x8x5x768, .f32⟩
  | .hbm, ⟨15, _⟩ => ⟨S2x6x128x8, .f32⟩
  | .hbm, ⟨16, _⟩ => ⟨S2x768x8, .f32⟩
  | .hbm, ⟨17, _⟩ => ⟨S2x8x768, .f32⟩
  | .hbm, ⟨18, _⟩ => ⟨S1x1, .f32⟩
  | .hbm, ⟨19, _⟩ => ⟨S2x768x5120, .bf16⟩
  | .local _ .vmem, ⟨0, _⟩ => ⟨S2x8x5x768x128, .fp8e4m3⟩
  | .local _ .vmem, ⟨1, _⟩ => ⟨S2x8x5x768, .f32⟩
  | .local _ .vmem, ⟨2, _⟩ => ⟨S2x8x768x128, .fp8e4m3⟩
  | .local _ .vmem, ⟨3, _⟩ => ⟨S2x8x768, .f32⟩
  | .local _ .vmem, ⟨4, _⟩ => ⟨S2x8x768x128, .fp8e4m3⟩
  | .local _ .vmem, ⟨5, _⟩ => ⟨S8x128, .f32⟩
  | .local _ .vmem, ⟨6, _⟩ => ⟨S1x1, .f32⟩
  | .local _ .vmem, ⟨7, _⟩ => ⟨S2x768x5120, .bf16⟩
  | _, _ => ⟨S2x768x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x8x5x768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x768x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RunAny.lean ====
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the `scf.if` under which the body builds the mask: both coordinates zero. -/
abbrev condM (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The mask is written at the first point of all, and only there. -/
theorem hcondM (i : grid0.Coords) : condM i ↔ (i 0).val = 0 ∧ (i 1).val = 0 := by
  unfold condM
  generalize (i 0 : Fin 2) = y; generalize (i 1 : Fin 6) = x; revert x y; decide +kernel

/-! Each of the six branches is taken at exactly one run of tokens. -/

/-- The work on query run 0 is done at the points of that run. -/
theorem hcond2 (i : grid0.Coords) : k0_cond2 i = 1#1 ↔ (i 1).val = 0 := by
  unfold k0_cond2
  generalize (i 1 : Fin 6) = x; revert x; decide +kernel
/-- The work on query run 1 is done at the points of that run. -/
theorem hcond3 (i : grid0.Coords) : k0_cond3 i = 1#1 ↔ (i 1).val = 1 := by
  unfold k0_cond3
  generalize (i 1 : Fin 6) = x; revert x; decide +kernel
/-- The work on query run 2 is done at the points of that run. -/
theorem hcond4 (i : grid0.Coords) : k0_cond4 i = 1#1 ↔ (i 1).val = 2 := by
  unfold k0_cond4
  generalize (i 1 : Fin 6) = x; revert x; decide +kernel
/-- The work on query run 3 is done at the points of that run. -/
theorem hcond5 (i : grid0.Coords) : k0_cond5 i = 1#1 ↔ (i 1).val = 3 := by
  unfold k0_cond5
  generalize (i 1 : Fin 6) = x; revert x; decide +kernel
/-- The work on query run 4 is done at the points of that run. -/
theorem hcond6 (i : grid0.Coords) : k0_cond6 i = 1#1 ↔ (i 1).val = 4 := by
  unfold k0_cond6
  generalize (i 1 : Fin 6) = x; revert x; decide +kernel
/-- The work on query run 5 is done at the points of that run. -/
theorem hcond7 (i : grid0.Coords) : k0_cond7 i = 1#1 ↔ (i 1).val = 5 := by
  unfold k0_cond7
  generalize (i 1 : Fin 6) = x; revert x; decide +kernel

set_option maxHeartbeats 8000000 in
/-- THE BODY RUNS from any contents of its buffers: the inputs' staging buffers end as they were, the output's and the
    scratch at some contents. -/
theorem run_any (c : Dev nD) (i : grid0.Coords) (arg2 : Memref sig .tc .smem S1x1 .f32) (harg2 : arg2.IsWhole) (arg3 : Memref sig .tc .smem S6x2x40 .f32) (harg3 : arg3.IsWhole) (arg4 : Memref sig .tc .smem S6x2x8 .f32) (harg4 : arg4.IsWhole) (arg5 : Memref sig .tc .vmem S8x128 .f32) (harg5 : arg5.IsWhole) (arg6 : Memref sig .tc .vmem S1x5120x128 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x128x5120 .bf16) (harg9 : arg9.IsWhole) (arg10 : Memref sig .tc .vmem S8x640x128 .fp8e4m3) (harg10 : arg10.IsWhole) (arg11 : Memref sig .tc .vmem S8x768x128 .fp8e4m3) (harg11 : arg11.IsWhole) (arg12 : Memref sig .tc .vmem S8x768x128 .fp8e4m3) (harg12 : arg12.IsWhole) (arg13 : Memref sig .tc .vmem S32x128 .i32) (harg13 : arg13.IsWhole)
    (x0 : Vec F S1x1 .f32) (x1 : Vec F S6x2x40 .f32) (x2 : Vec F S6x2x8 .f32) (x3 : Vec F S8x128 .f32)
    (x4 : Vec F S1x5120x128 .fp8e4m3) (x5 : Vec F S1x1024x128 .fp8e4m3) (x6 : Vec F S1x1024x128 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sigmoid_attention i arg2 harg2 arg3 harg3 arg4 harg4 arg5 harg5 arg6 harg6 arg7 harg7 arg8 harg8 arg9 harg9 arg10 harg10 arg11 harg11 arg12 harg12 arg13 harg13) K := by
  have hi : (i 1).val = 0 ∨ (i 1).val = 1 ∨ (i 1).val = 2 ∨ (i 1).val = 3 ∨ (i 1).val = 4 ∨ (i 1).val = 5 := by
    have : (i 1).val < 6 := (i 1).isLt
    omega
  simp only [cc0_sigmoid_attention_eq_skeleton]; unfold cc0_sigmoid_attention_skel
  simp only [k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton,
    k0_part82_eq_skeleton, k0_part83_eq_skeleton, k0_part84_eq_skeleton, k0_part85_eq_skeleton, k0_part86_eq_skeleton,
    k0_part87_eq_skeleton, k0_part88_eq_skeleton, k0_part89_eq_skeleton, k0_part90_eq_skeleton, k0_part91_eq_skeleton,
    k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton,
    k0_part101_eq_skeleton, k0_part102_eq_skeleton, k0_part103_eq_skeleton, k0_part104_eq_skeleton,
    k0_part105_eq_skeleton, k0_part106_eq_skeleton, k0_part107_eq_skeleton, k0_part108_eq_skeleton,
    k0_part109_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  by_cases hm : condM i <;> rcases hi with h | h | h | h | h | h
  all_goals first
    | (exfalso; have := (hcondM i).mp hm; omega)
    | (sl_exec (disch := first
          | sl_exact hm
          | sl_exact (hcond2 i).mpr h | sl_exact fun e => absurd ((hcond2 i).mp e) (by omega)
          | sl_exact (hcond3 i).mpr h | sl_exact fun e => absurd ((hcond3 i).mp e) (by omega)
          | sl_exact (hcond4 i).mpr h | sl_exact fun e => absurd ((hcond4 i).mp e) (by omega)
          | sl_exact (hcond5 i).mpr h | sl_exact fun e => absurd ((hcond5 i).mp e) (by omega)
          | sl_exact (hcond6 i).mpr h | sl_exact fun e => absurd ((hcond6 i).mp e) (by omega)
          | sl_exact (hcond7 i).mpr h | sl_exact fun e => absurd ((hcond7 i).mp e) (by omega))
       sl_step
       iapply Hk
       isplitl [H2]; · iexists _; isplitr; · ipureintro; exact harg2.read_unread _
                       iexact H2
       isplitl [H3]; · iexists _; isplitr; · ipureintro; exact harg3.read_unread _
                       iexact H3
       isplitl [H4]; · iexists _; isplitr; · ipureintro; exact harg4.read_unread _
                       iexact H4
       isplitl [H5]; · iexists _; isplitr; · ipureintro; exact harg5.read_unread _
                       iexact H5
       isplitl [H6]; · iexists _; isplitr; · ipureintro; exact harg6.read_unread _
                       iexact H6
       isplitl [H7]; · iexists _; isplitr; · ipureintro; exact harg7.read_unread _
                       iexact H7
       isplitl [H8]; · iexists _; isplitr; · ipureintro; exact harg8.read_unread _
                       iexact H8
       isplitl [H9]; · iexists _, _; isplitr; swap; · iexact H9
                       ipureintro; rfl
       isplitl [H10]; · iexists _, _; isplitr; swap; · iexact H10
                        ipureintro; rfl
       isplitl [H11]; · iexists _, _; isplitr; swap; · iexact H11
                        ipureintro; rfl
       isplitl [H12]; · iexists _, _; isplitr; swap; · iexact H12
                        ipureintro; rfl
       iexists _, _; isplitr; swap; · iexact H13
       ipureintro; rfl)

end Cert.Kernel.Hand

end
-- ==== Proof.FrameAny.lean ====
module

public import proofs.«01_k».proof.Proof.Gen.Kernel.Frame
public import proofs.«01_k».proof.Proof.RunAny
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with -/

/-- The staging buffer of the weights' scale at a point. -/
abbrev ms0_0 (t : Fin cfg0.N) : Memref sig .tc .smem S1x1 .f32 := win0_0.stage (cfg0.slots t 0)
/-- The staging buffer of the queries' scales at a point. -/
abbrev ms0_1 (t : Fin cfg0.N) : Memref sig .tc .smem S6x2x40 .f32 := win0_1.stage (cfg0.slots t 1)
/-- The staging buffer of the keys' scales at a point. -/
abbrev ms0_2 (t : Fin cfg0.N) : Memref sig .tc .smem S6x2x8 .f32 := win0_2.stage (cfg0.slots t 2)
/-- The staging buffer of the values' scales at a point. -/
abbrev ms0_3 (t : Fin cfg0.N) : Memref sig .tc .vmem S8x128 .f32 := win0_3.stage (cfg0.slots t 3)
/-- The staging buffer of the queries at a point. -/
abbrev ms0_4 (t : Fin cfg0.N) : Memref sig .tc .vmem S1x5120x128 .fp8e4m3 := win0_4.stage (cfg0.slots t 4)
/-- The staging buffer of the keys at a point. -/
abbrev ms0_5 (t : Fin cfg0.N) : Memref sig .tc .vmem S1x1024x128 .fp8e4m3 := win0_5.stage (cfg0.slots t 5)
/-- The staging buffer of the values at a point. -/
abbrev ms0_6 (t : Fin cfg0.N) : Memref sig .tc .vmem S1x1024x128 .fp8e4m3 := win0_6.stage (cfg0.slots t 6)
/-- The staging buffer of the result at a point. -/
abbrev ms0_7 (t : Fin cfg0.N) : Memref sig .tc .vmem S1x128x5120 .bf16 := win0_7.stage (cfg0.slots t 7)
/-- The queries' scratch. -/
abbrev scM0_0 : Memref sig .tc .vmem S8x640x128 .fp8e4m3 := Memref.whole cc0_scratch0
/-- The keys' scratch. -/
abbrev scM0_1 : Memref sig .tc .vmem S8x768x128 .fp8e4m3 := Memref.whole cc0_scratch1
/-- The values' scratch. -/
abbrev scM0_2 : Memref sig .tc .vmem S8x768x128 .fp8e4m3 := Memref.whole cc0_scratch2
/-- The mask's scratch. -/
abbrev scM0_3 : Memref sig .tc .vmem S32x128 .i32 := Memref.whole cc0_scratch3
/-- The window of the weights' scale is in use at every point. -/
theorem liveAt0_0 : ∀ t : Fin cfg0.N, cfg0.idle 0 (grid0.coords t) = false := fun _ => rfl
/-- The window of the queries' scales is in use at every point. -/
theorem liveAt0_1 : ∀ t : Fin cfg0.N, cfg0.idle 1 (grid0.coords t) = false := fun _ => rfl
/-- The window of the keys' scales is in use at every point. -/
theorem liveAt0_2 : ∀ t : Fin cfg0.N, cfg0.idle 2 (grid0.coords t) = false := fun _ => rfl
/-- The window of the values' scales is in use at every point. -/
theorem liveAt0_3 : ∀ t : Fin cfg0.N, cfg0.idle 3 (grid0.coords t) = false := fun _ => rfl
/-- The window of the queries is in use at every point. -/
theorem liveAt0_4 : ∀ t : Fin cfg0.N, cfg0.idle 4 (grid0.coords t) = false := fun _ => rfl
/-- The window of the keys is in use at every point. -/
theorem liveAt0_5 : ∀ t : Fin cfg0.N, cfg0.idle 5 (grid0.coords t) = false := fun _ => rfl
/-- The window of the values is in use at every point. -/
theorem liveAt0_6 : ∀ t : Fin cfg0.N, cfg0.idle 6 (grid0.coords t) = false := fun _ => rfl

/-- The region's invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The output window: nothing is stated here of what the body leaves in it. -/
def forgets0 : Fin 8 → Bool := fun w => w.val == 7

/-- The proof data: the arrays as the region finds them, each input's buffer at its block after the body, the output
    unnamed, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

/-- The array a window stages is the one the host code left in its operand. -/
theorem A_eq (c : Dev nD) (w : Fin cfg0.W) : (dats m 0 c).A w = V m c (Pipeline.arrRef spec0 w) := by
  dsimp only [dats]

/-- After a point the window of the weights' scale holds its fetched block. -/
theorem after0_0 (c : Dev nD) (t : Fin cfg0.N) : (dats m 0 c).after 0 t = iblk m c 0 t := by dsimp only [dats]
/-- After a point the window of the queries' scales holds its fetched block. -/
theorem after0_1 (c : Dev nD) (t : Fin cfg0.N) : (dats m 0 c).after 1 t = iblk m c 1 t := by dsimp only [dats]
/-- After a point the window of the keys' scales holds its fetched block. -/
theorem after0_2 (c : Dev nD) (t : Fin cfg0.N) : (dats m 0 c).after 2 t = iblk m c 2 t := by dsimp only [dats]
/-- After a point the window of the values' scales holds its fetched block. -/
theorem after0_3 (c : Dev nD) (t : Fin cfg0.N) : (dats m 0 c).after 3 t = iblk m c 3 t := by dsimp only [dats]
/-- After a point the window of the queries holds its fetched block. -/
theorem after0_4 (c : Dev nD) (t : Fin cfg0.N) : (dats m 0 c).after 4 t = iblk m c 4 t := by dsimp only [dats]
/-- After a point the window of the keys holds its fetched block. -/
theorem after0_5 (c : Dev nD) (t : Fin cfg0.N) : (dats m 0 c).after 5 t = iblk m c 5 t := by dsimp only [dats]
/-- After a point the window of the values holds its fetched block. -/
theorem after0_6 (c : Dev nD) (t : Fin cfg0.N) : (dats m 0 c).after 6 t = iblk m c 6 t := by dsimp only [dats]
/-- Before a point the window of the weights' scale holds its fetched block. -/
theorem before0_0 (c : Dev nD) (t : Fin cfg0.N) (d) : (dats m 0 c).before 0 t d = iblk m c 0 t :=
  before0_0_of m (dats m 0 c) (A_eq m c 0) (after0_0 m c) t d
/-- Before a point the window of the queries' scales holds its fetched block. -/
theorem before0_1 (c : Dev nD) (t : Fin cfg0.N) (d) : (dats m 0 c).before 1 t d = iblk m c 1 t :=
  before0_1_of m (dats m 0 c) (A_eq m c 1) (after0_1 m c) t d
/-- Before a point the window of the keys' scales holds its fetched block. -/
theorem before0_2 (c : Dev nD) (t : Fin cfg0.N) (d) : (dats m 0 c).before 2 t d = iblk m c 2 t :=
  before0_2_of m (dats m 0 c) (A_eq m c 2) (after0_2 m c) t d
/-- Before a point the window of the values' scales holds its fetched block. -/
theorem before0_3 (c : Dev nD) (t : Fin cfg0.N) (d) : (dats m 0 c).before 3 t d = iblk m c 3 t :=
  before0_3_of m (dats m 0 c) (A_eq m c 3) (after0_3 m c) t d
/-- Before a point the window of the queries holds its fetched block. -/
theorem before0_4 (c : Dev nD) (t : Fin cfg0.N) (d) : (dats m 0 c).before 4 t d = iblk m c 4 t :=
  before0_4_of m (dats m 0 c) (A_eq m c 4) (after0_4 m c) t d
/-- Before a point the window of the keys holds its fetched block. -/
theorem before0_5 (c : Dev nD) (t : Fin cfg0.N) (d) : (dats m 0 c).before 5 t d = iblk m c 5 t :=
  before0_5_of m (dats m 0 c) (A_eq m c 5) (after0_5 m c) t d
/-- Before a point the window of the values holds its fetched block. -/
theorem before0_6 (c : Dev nD) (t : Fin cfg0.N) (d) : (dats m 0 c).before 6 t d = iblk m c 6 t :=
  before0_6_of m (dats m 0 c) (A_eq m c 6) (after0_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl,
    PhiA0_eq]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  iintro ⟨⟨⟨S0, S1, S2, S3⟩, Hg⟩, Ho, ⟨%e0, H0⟩, ⟨%e1, H1⟩, ⟨%e2, H2⟩, ⟨%e3, H3⟩, ⟨%e4, H4⟩, ⟨%e5, H5⟩, ⟨%e6, H6⟩, H7⟩
  iapply (run_any c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- THE LAUNCH: every execution terminates, the inputs' arrays end unchanged and every semaphore counter is zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- THE FRAME: the argument arrays end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), (Pipeline.RDat.FramePost.arr_in h.1 c 3 rfl).trans ((A_eq m c 3).trans (V_main_arg5 m c)), ((h.1 c).2 main_arg6 (Pipeline.mem_restRefs_of main_arg6 (by decide) (by decide))).trans (V_main_arg6 m c)⟩, h.2⟩) (run_main m ρ)

end Cert.Kernel.Hand

end
-- ==== Proof.Split.lean ====
module

public import proofs.«01_k».proof.Proof.Gen.KernelIdeal.Frame
public import proofs.«01_k».proof.Proof.Gen.KernelIdeal.Loops
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Splitting the heads of one run of tokens: 128 tokens of 40 (or 8) heads side by side become, head by
head, 128 rows of that head. -/

/-- The query scratch: row `128 h + s` of key head `g` is query head `5 g + h` of token `s`. -/
def splitQ (x : Vec F S1x5120x128 .fp8e4m3) : Vec F S8x640x128 .fp8e4m3 := fun y =>
  x (ix3 0 ⟨(y 1).val % 128 * 40 + ((y 0).val * 5 + (y 1).val / 128), by
    have h0 : (y 0).val < 8 := (y 0).isLt
    have h1 : (y 1).val < 640 := (y 1).isLt
    show _ < 5120
    omega⟩ (y 2))

/-- The key (or value) scratch after run `n`: rows `128 n + s` of head `g` are head `g` of token `s` of
the run, the other rows as before. -/
def kvUpd (n : Fin 6) (x : Vec F S1x1024x128 .fp8e4m3) (d : Vec F S8x768x128 .fp8e4m3) :
    Vec F S8x768x128 .fp8e4m3 := fun y =>
  if (y 1).val / 128 = n.val then x (ix3 0 ⟨(y 1).val % 128 * 8 + (y 0).val, by
    have h0 : (y 0).val < 8 := (y 0).isLt
    show _ < 1024
    omega⟩ (y 2)) else d y

/-! The stores go word by word of four heads, within a word by 32 tokens, within those head by head: store `s` is
of head `4 (s / 16) + s % 4` and of tokens `32 (s / 4 % 4)` up to 32 more. -/

/-- The query head that store `s` is of. -/
def qHead (s : Fin 160) : Fin 40 := ⟨4 * (s.val / 16) + s.val % 4, by omega⟩

/-- The key or value head that store `s` is of. -/
def kvHead (s : Fin 32) : Fin 8 := ⟨4 * (s.val / 16) + s.val % 4, by omega⟩

/-- 32 tokens of one head lie inside the queries' block. -/
theorem slicesQ (s : Fin 160) : S128x40x128.Slices ![32 * (s.val / 4 % 4), (qHead s).val, 0] S32x1x128 := by
  revert s; decide
/-- 32 tokens of one group lie inside the keys' or the values' block. -/
theorem slicesK (s : Fin 32) : S128x8x128.Slices ![32 * (s.val / 4 % 4), (kvHead s).val, 0] S32x1x128 := by
  revert s; decide

/-- The rows a store of queries goes to lie inside the queries' scratch. -/
theorem qInb (s : Fin 160) : ∀ a, (![(qHead s).val / 5, (qHead s).val % 5 * 128 + 32 * (s.val / 4 % 4), 0] : Fin 3 → ℕ) a
    + S1x32x128.size a ≤ S8x640x128.size a := by
  revert s; decide

/-- The rows of store `s` of the queries. -/
def qRow (x : Vec F S1x5120x128 .fp8e4m3) (s : Fin 160) : Vec F S1x32x128 .fp8e4m3 :=
  shapeCast S1x32x128 (shapeCast S32x128 (extractStridedSlice S32x1x128 ![32 * (s.val / 4 % 4), (qHead s).val, 0]
    (k0_pay205 x) (slicesQ s)) shapeCasts_S32x1x128_S32x128) shapeCasts_S32x128_S1x32x128

/-- The rows of store `s` of the keys or the values. -/
def kvRow (x : Vec F S1x1024x128 .fp8e4m3) (s : Fin 32) : Vec F S1x32x128 .fp8e4m3 :=
  shapeCast S1x32x128 (shapeCast S32x128 (extractStridedSlice S32x1x128 ![32 * (s.val / 4 % 4), (kvHead s).val, 0]
    (k0_pay390 x) (slicesK s)) shapeCasts_S32x1x128_S32x128) shapeCasts_S32x128_S1x32x128

/-- The pieces of the query scratch, last first. -/
def qPieces (x : Vec F S1x5120x128 .fp8e4m3) : List (View.Piece (Elt F) S8x640x128 .fp8e4m3) :=
  (List.finRange 160).reverse.map fun s =>
    ⟨Rect.unit (s := S8x640x128) ![(qHead s).val / 5, (qHead s).val % 5 * 128 + 32 * (s.val / 4 % 4), 0] S1x32x128.size
      (qInb s), qRow x s⟩

/-- Where store `s` of the keys or the values goes. -/
def kvOff (i : grid0.Coords) (s : Fin 32) : Fin 3 → ℕ :=
  (![k0_off1, k0_off2, k0_off3, k0_off4, k0_off5, k0_off6, k0_off7, k0_off8] : Fin 8 → grid0.Coords → BitVec 32 → Fin 3 → ℕ)
    (kvHead s) i (BitVec.ofNat 32 (32 * (s.val / 4 % 4)))

/-- Where a point stores a group's rows in the keys' and the values' scratch. -/
theorem kvOff_eq (i : grid0.Coords) (s : Fin 32) :
    kvOff i s = ![(kvHead s).val, 128 * (i 1).val + 32 * (s.val / 4 % 4), 0] := by
  unfold kvOff
  have hc : s.val / 4 % 4 < 4 := by omega
  generalize s.val / 4 % 4 = c at hc
  generalize kvHead s = g
  fin_cases g
  · exact k0_off1_eq i ⟨c, hc⟩
  · exact k0_off2_eq i ⟨c, hc⟩
  · exact k0_off3_eq i ⟨c, hc⟩
  · exact k0_off4_eq i ⟨c, hc⟩
  · exact k0_off5_eq i ⟨c, hc⟩
  · exact k0_off6_eq i ⟨c, hc⟩
  · exact k0_off7_eq i ⟨c, hc⟩
  · exact k0_off8_eq i ⟨c, hc⟩

/-- The rows a group is stored to lie inside the scratch. -/
theorem kvInb (i : grid0.Coords) (s : Fin 32) : ∀ a, kvOff i s a + S1x32x128.size a ≤ S8x768x128.size a := by
  rw [kvOff_eq]
  have h1 : (i 1).val < 6 := (i 1).isLt
  have h2 : (kvHead s).val < 8 := (kvHead s).isLt
  intro a
  fin_cases a
  · show (kvHead s).val + 1 ≤ 8; omega
  · show 128 * (i 1).val + 32 * (s.val / 4 % 4) + 32 ≤ 768; omega
  · show 0 + 128 ≤ 128; omega

/-- The pieces of the key or value scratch, last first. -/
def kvPieces (i : grid0.Coords) (x : Vec F S1x1024x128 .fp8e4m3) : List (View.Piece (Elt F) S8x768x128 .fp8e4m3) :=
  (List.finRange 32).reverse.map fun s =>
    ⟨Rect.unit (s := S8x768x128) (kvOff i s) S1x32x128.size (kvInb i s), kvRow x s⟩

/-- An entry of the rows of one store, read from the queries' block. -/
theorem qRow_at (x : Vec F S1x5120x128 .fp8e4m3) (s : Fin 160) (y : S1x32x128.Idx) :
    qRow x s y = x (ix3 0 ⟨(32 * (s.val / 4 % 4) + (y 1).val) * 40 + (qHead s).val, by
      have h1 : (y 1).val < 32 := (y 1).isLt
      have h2 := (qHead s).isLt
      show _ < 5120
      omega⟩ (y 2)) := by
  idx_vars y
  have hc : s.val / 4 % 4 < 4 := by omega
  unfold qRow k0_pay205
  pointwise

/-- An entry of the rows of one store, read from the keys' or the values' block. -/
theorem kvRow_at (x : Vec F S1x1024x128 .fp8e4m3) (s : Fin 32) (y : S1x32x128.Idx) :
    kvRow x s y = x (ix3 0 ⟨(32 * (s.val / 4 % 4) + (y 1).val) * 8 + (kvHead s).val, by
      have h1 : (y 1).val < 32 := (y 1).isLt
      have h2 := (kvHead s).isLt
      show _ < 1024
      omega⟩ (y 2)) := by
  idx_vars y
  have hc : s.val / 4 % 4 < 4 := by omega
  unfold kvRow k0_pay390
  pointwise

/-- The query scratch after the stores. -/
theorem read_qPieces (a : Memref sig .tc .vmem S8x640x128 .fp8e4m3) (f : BufTy.Contents (Elt F) a.view.ty)
    (x : Vec F S1x5120x128 .fp8e4m3) : a.view.read (Elt F) (a.view.writes (Elt F) f (qPieces x)) = splitQ x := by
  funext y
  refine View.read_writes_apply_of_pieces a.view f (splitQ x) (qPieces x) ?_ y ?_
  · intro p hp z
    obtain ⟨s, -, rfl⟩ := List.mem_map.mp hp
    show qRow x s z = splitQ x _
    rw [qRow_at]
    unfold splitQ
    have z0 : (z 0).val < 1 := (z 0).isLt
    have z1 : (z 1).val < 32 := (z 1).isLt
    have hc : s.val / 4 % 4 < 4 := by omega
    congr 1
    refine congrArg₂ (ix3 0) (Fin.ext ?_) (Fin.ext ?_)
    · show (32 * (s.val / 4 % 4) + (z 1).val) * 40 + (qHead s).val
        = ((qHead s).val % 5 * 128 + 32 * (s.val / 4 % 4) + 1 * (z 1).val) % 128 * 40
          + (((qHead s).val / 5 + 1 * (z 0).val) * 5 + ((qHead s).val % 5 * 128 + 32 * (s.val / 4 % 4) + 1 * (z 1).val) / 128)
      omega
    · show (z 2).val = 0 + 1 * (z 2).val
      omega
  · have y0 : (y 0).val < 8 := (y 0).isLt
    have y1 : (y 1).val < 640 := (y 1).isLt
    have y2 : (y 2).val < 128 := (y 2).isLt
    obtain ⟨s, hh, hc⟩ : ∃ s : Fin 160, (qHead s).val = (y 0).val * 5 + (y 1).val / 128 ∧ s.val / 4 % 4 = (y 1).val % 128 / 32 := by
      have hh : (y 0).val * 5 + (y 1).val / 128 < 40 := by omega
      have hc : (y 1).val % 128 / 32 < 4 := by omega
      generalize (y 0).val * 5 + (y 1).val / 128 = h at hh
      generalize (y 1).val % 128 / 32 = c at hc
      refine ⟨⟨h / 4 * 16 + c * 4 + h % 4, by omega⟩, ?_, ?_⟩
      · show 4 * ((h / 4 * 16 + c * 4 + h % 4) / 16) + (h / 4 * 16 + c * 4 + h % 4) % 4 = h
        omega
      · show (h / 4 * 16 + c * 4 + h % 4) / 4 % 4 = c
        omega
    refine ⟨_, List.mem_map.mpr ⟨s, List.mem_reverse.mpr (List.mem_finRange _), rfl⟩, ?_⟩
    rw [Rect.mem_set_unit]
    intro b
    fin_cases b
    · show (qHead s).val / 5 ≤ (y 0).val ∧ (y 0).val < (qHead s).val / 5 + 1
      omega
    · show (qHead s).val % 5 * 128 + 32 * (s.val / 4 % 4) ≤ (y 1).val
        ∧ (y 1).val < (qHead s).val % 5 * 128 + 32 * (s.val / 4 % 4) + 32
      omega
    · show 0 ≤ (y 2).val ∧ (y 2).val < 0 + 128
      omega

/-- The key or value scratch after the stores. -/
theorem read_kvPieces (a : Memref sig .tc .vmem S8x768x128 .fp8e4m3) (f : BufTy.Contents (Elt F) a.view.ty)
    (i : grid0.Coords) (n : Fin 6) (hn : (i 1).val = n.val) (x : Vec F S1x1024x128 .fp8e4m3) :
    a.view.read (Elt F) (a.view.writes (Elt F) f (kvPieces i x)) = kvUpd n x (a.view.read (Elt F) f) := by
  have hmem : ∀ (s : Fin 32) (y : S8x768x128.Idx), y ∈ (Rect.unit (s := S8x768x128) (kvOff i s) S1x32x128.size (kvInb i s)).set
      ↔ (y 0).val = (kvHead s).val ∧ (y 1).val / 128 = n.val ∧ (y 1).val % 128 / 32 = s.val / 4 % 4 := by
    intro s y
    rw [Rect.mem_set_unit]
    have y0 : (y 0).val < 8 := (y 0).isLt
    have y1 : (y 1).val < 768 := (y 1).isLt
    have y2 : (y 2).val < 128 := (y 2).isLt
    constructor
    · intro h
      have h0 := h 0
      have h1 := h 1
      rw [kvOff_eq] at h0 h1
      have h0 : (kvHead s).val ≤ (y 0).val ∧ (y 0).val < (kvHead s).val + 1 := h0
      have h1 : 128 * (i 1).val + 32 * (s.val / 4 % 4) ≤ (y 1).val ∧ (y 1).val < 128 * (i 1).val + 32 * (s.val / 4 % 4) + 32 := h1
      omega
    · rintro ⟨h0, h1, h2⟩ b
      rw [kvOff_eq]
      fin_cases b
      · show (kvHead s).val ≤ (y 0).val ∧ (y 0).val < (kvHead s).val + 1
        omega
      · show 128 * (i 1).val + 32 * (s.val / 4 % 4) ≤ (y 1).val ∧ (y 1).val < 128 * (i 1).val + 32 * (s.val / 4 % 4) + 32
        omega
      · show 0 ≤ (y 2).val ∧ (y 2).val < 0 + 128
        omega
  funext y
  unfold kvUpd
  have y0 : (y 0).val < 8 := (y 0).isLt
  split
  · rename_i hy
    refine View.read_writes_apply_of_pieces a.view f (fun y : S8x768x128.Idx => x (ix3 0 ⟨(y 1).val % 128 * 8 + (y 0).val, by
      have h0 : (y 0).val < 8 := (y 0).isLt
      show _ < 1024
      omega⟩ (y 2))) (kvPieces i x) ?_ y ?_
    · intro p hp z
      obtain ⟨s, -, rfl⟩ := List.mem_map.mp hp
      show kvRow x s z = _
      rw [kvRow_at]
      have z0 : (z 0).val < 1 := (z 0).isLt
      have z1 : (z 1).val < 32 := (z 1).isLt
      have hc : s.val / 4 % 4 < 4 := by omega
      have o0 : kvOff i s 0 = (kvHead s).val := by rw [kvOff_eq]; rfl
      have o1 : kvOff i s 1 = 128 * (i 1).val + 32 * (s.val / 4 % 4) := by rw [kvOff_eq]; rfl
      have o2 : kvOff i s 2 = 0 := by rw [kvOff_eq]; rfl
      congr 1
      refine congrArg₂ (ix3 0) (Fin.ext ?_) (Fin.ext ?_)
      · show (32 * (s.val / 4 % 4) + (z 1).val) * 8 + (kvHead s).val
          = (kvOff i s 1 + 1 * (z 1).val) % 128 * 8 + (kvOff i s 0 + 1 * (z 0).val)
        rw [o0, o1]
        omega
      · show (z 2).val = kvOff i s 2 + 1 * (z 2).val
        omega
    · obtain ⟨s, hh, hc⟩ : ∃ s : Fin 32, (kvHead s).val = (y 0).val ∧ s.val / 4 % 4 = (y 1).val % 128 / 32 := by
        have hc : (y 1).val % 128 / 32 < 4 := by omega
        generalize (y 0).val = h at y0
        generalize (y 1).val % 128 / 32 = c at hc
        refine ⟨⟨h / 4 * 16 + c * 4 + h % 4, by omega⟩, ?_, ?_⟩
        · show 4 * ((h / 4 * 16 + c * 4 + h % 4) / 16) + (h / 4 * 16 + c * 4 + h % 4) % 4 = h
          omega
        · show (h / 4 * 16 + c * 4 + h % 4) / 4 % 4 = c
          omega
      exact ⟨_, List.mem_map.mpr ⟨s, List.mem_reverse.mpr (List.mem_finRange _), rfl⟩, (hmem _ _).mpr ⟨hh.symm, hy, hc.symm⟩⟩
  · rename_i hy
    refine View.read_writes_apply_of_forall_not_mem a.view f y (kvPieces i x) fun p hp h => ?_
    obtain ⟨s, -, rfl⟩ := List.mem_map.mp hp
    exact hy ((hmem _ _).mp h).2.1

/-- A whole load of a whole buffer is what it holds. -/
theorem load_whole3 {s : Space} {a b c : ℕ} {e : EltTy} (r : Memref sig .tc s ⟨3, ![a, b, c]⟩ e) (hr : r.IsWhole)
    (x : Vec F ⟨3, ![a, b, c]⟩ e) (inb) :
    r.view.readAt (Elt F) (Rect.unit (s := ⟨3, ![a, b, c]⟩) ![0, 0, 0] ![a, b, c] inb).toLoadRect (hr.unread x) = x := by
  funext y
  show r.view.read (Elt F) (hr.unread x) _ = x y
  rw [hr.read_unread]
  congr 1
  refine Rect.emb_eq_of_coords _ _ _ fun k => ?_
  fin_cases k <;> simp [Rect.unit]

end Cert.KernelIdeal.Hand
-- ==== Proof.Attend.lean ====
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one trip of a head loop computes, as a function of the arrays it loads: the scores of five
query heads against the visible keys, the masked 8-bit codes of the sigmoid, their product with the
values, and the rescaled output rows. -/

/-- The scale of one score block: query scale times key scale times the head scale. -/
def scl (a b : F .f32) : F .f32 := Scalar.mulf (Scalar.mulf a b) (Scalar.ofBits .f32 0x3DB504F3#32)

/-- The codes of one block of scores: sigmoid of the scaled, shifted score, times the inverse code
scale, clipped to the range of the code. -/
def codeOf (s : FVec F S128x128 .f32) (a inv : F .f32) : FVec F S128x128 .fp8e4m3 :=
  truncf .fp8e4m3
    (minimumf (broadcast S128x128 (Scalar.ofBits .f32 0x43E00000#32))
      (maximumf (broadcast S128x128 (Scalar.ofBits .f32 0x00000000#32))
        (mulf (logistic (addf (mulf s (broadcast S128x128 a)) (broadcast S128x128 (Scalar.ofBits .f32 0xC0D499ED#32))))
          (broadcast S128x128 inv)))) bitsLt_fp8e4m3_f32

/-- The codes with those above the diagonal set to zero, by the packed byte mask. -/
def maskOf (mw : Vec F S32x128 .i32) (x : FVec F S128x128 .fp8e4m3) : FVec F S128x128 .fp8e4m3 :=
  select (cmpi .ne (bitcast S128x128 8 mw bitcasts_S32x128_w32_S128x128_w8) (broadcast S128x128 0#8)) x
    (broadcast S128x128 (Scalar.ofBits .fp8e4m3 0x00#8))

/-- A head's 128 by 128 piece lies inside a one-run score block. -/
theorem slicesOne (h : Fin 5) : S640x128.Slices ![128 * h.val, 0] S128x128 := by revert h; decide
/-- A head's 128 by 128 piece of either run lies inside a two-run score block. -/
theorem slicesTwo (h : Fin 5) (n : Fin 2) : S640x256.Slices ![128 * h.val, 128 * n.val] S128x128 := by
  revert h n; decide

/-- The contribution of one run of 128 keys, masked. -/
def oneChunk (q : Vec F S1x640x128 .fp8e4m3) (k v : Vec F S1x128x128 .fp8e4m3) (qa : Fin 5 → F .f32)
    (ka inv : F .f32) (mw : Vec F S32x128 .i32) : FVec F S640x128 .f32 :=
  have s : FVec F S640x128 .f32 := matmul dot_S640x128_S128x128_S640x128_1_1_0_0_n_n none
    (shapeCast S640x128 q shapeCasts_S1x640x128_S640x128) (shapeCast S128x128 k shapeCasts_S1x128x128_S128x128)
    (constant S640x128 .f32 0x00000000#32)
  have row : Fin 5 → FVec F S128x128 .fp8e4m3 := fun h =>
    maskOf mw (codeOf (extractStridedSlice S128x128 ![128 * h.val, 0] s (slicesOne h)) (scl (qa h) ka) inv)
  matmul dot_S640x128_S128x128_S640x128_1_0_0_1_n_n none
    (concatenate S640x128 0 [⟨S128x128, row 0⟩, ⟨S128x128, row 1⟩, ⟨S128x128, row 2⟩, ⟨S128x128, row 3⟩, ⟨S128x128, row 4⟩]
      concatenates_S128x128_S128x128_S128x128_S128x128_S128x128_S640x128_d0)
    (shapeCast S128x128 v shapeCasts_S1x128x128_S128x128) (constant S640x128 .f32 0x00000000#32)

/-- The contribution of two runs of keys; `g` is the mask of the second one (or the identity). -/
def twoChunk (q : Vec F S1x640x128 .fp8e4m3) (k v : Vec F S1x256x128 .fp8e4m3) (qa : Fin 5 → F .f32)
    (ka kb inv : F .f32) (g : FVec F S128x128 .fp8e4m3 → FVec F S128x128 .fp8e4m3) : FVec F S640x128 .f32 :=
  have s : FVec F S640x256 .f32 := matmul dot_S640x128_S256x128_S640x256_1_1_0_0_n_n none
    (shapeCast S640x128 q shapeCasts_S1x640x128_S640x128) (shapeCast S256x128 k shapeCasts_S1x256x128_S256x128)
    (constant S640x256 .f32 0x00000000#32)
  have row : Fin 5 → FVec F S128x256 .fp8e4m3 := fun h => concatenate S128x256 1
    [⟨S128x128, codeOf (extractStridedSlice S128x128 ![128 * h.val, 128 * (0 : Fin 2).val] s (slicesTwo h 0)) (scl (qa h) ka) inv⟩,
     ⟨S128x128, g (codeOf (extractStridedSlice S128x128 ![128 * h.val, 128 * (1 : Fin 2).val] s (slicesTwo h 1)) (scl (qa h) kb) inv)⟩]
    concatenates_S128x128_S128x128_S128x256_d1
  matmul dot_S640x256_S256x128_S640x128_1_0_0_1_n_n none
    (concatenate S640x256 0 [⟨S128x256, row 0⟩, ⟨S128x256, row 1⟩, ⟨S128x256, row 2⟩, ⟨S128x256, row 3⟩, ⟨S128x256, row 4⟩]
      concatenates_S128x256_S128x256_S128x256_S128x256_S128x256_S640x256_d0)
    (shapeCast S256x128 v shapeCasts_S1x256x128_S256x128) (constant S640x128 .f32 0x00000000#32)

/-- The stored rows of query head `h`: the sum over the keys times value scale times code scale. -/
def outOf (o : FVec F S640x128 .f32) (vs : Vec F S1x128 .f32) (ps : F .f32) (h : Fin 5) : FVec F S1x128x128 .bf16 :=
  shapeCast S1x128x128 (truncf .bf16 (mulf (extractStridedSlice S128x128 ![128 * h.val, 0] o (slicesOne h))
    (broadcastTo S128x128 (mulf vs (broadcast S1x128 ps)) broadcasts_S1x128_S128x128)) bitsLt_bf16_f32)
    shapeCasts_S128x128_S1x128x128

/-- The five pieces of a trip, last one first. -/
def five {α : Type} (f : Fin 5 → α) : List α := [f 4, f 3, f 2, f 1, f 0]

section loads
variable (c : Dev nD) (i : grid0.Coords) (arg2 : Memref sig .tc .smem S1x1 .f32) (harg2 : arg2.IsWhole) (arg3 : Memref sig .tc .smem S6x2x40 .f32) (harg3 : arg3.IsWhole) (arg4 : Memref sig .tc .smem S6x2x8 .f32) (harg4 : arg4.IsWhole) (arg5 : Memref sig .tc .vmem S8x128 .f32) (harg5 : arg5.IsWhole) (arg6 : Memref sig .tc .vmem S1x5120x128 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x128x5120 .bf16) (harg9 : arg9.IsWhole) (arg10 : Memref sig .tc .vmem S8x640x128 .fp8e4m3) (harg10 : arg10.IsWhole) (arg11 : Memref sig .tc .vmem S8x768x128 .fp8e4m3) (harg11 : arg11.IsWhole) (arg12 : Memref sig .tc .vmem S8x768x128 .fp8e4m3) (harg12 : arg12.IsWhole) (arg13 : Memref sig .tc .vmem S32x128 .i32) (harg13 : arg13.IsWhole) (arg0 : BitVec 32) (ps : Elt F .f32) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)

/-- The query block of a trip. -/
abbrev ldQ (off : Fin 3 → ℕ) (inb : ∀ a, off a + S1x640x128.size a ≤ S8x640x128.size a) : Vec F S1x640x128 .fp8e4m3 :=
  arg10.view.readAt (Elt F) (Rect.unit (s := S8x640x128) off S1x640x128.size inb).toLoadRect X_arg10
/-- 128 rows of keys. -/
abbrev ldK1 (off : Fin 3 → ℕ) (inb : ∀ a, off a + S1x128x128.size a ≤ S8x768x128.size a) : Vec F S1x128x128 .fp8e4m3 :=
  arg11.view.readAt (Elt F) (Rect.unit (s := S8x768x128) off S1x128x128.size inb).toLoadRect X_arg11
/-- 256 rows of keys. -/
abbrev ldK2 (off : Fin 3 → ℕ) (inb : ∀ a, off a + S1x256x128.size a ≤ S8x768x128.size a) : Vec F S1x256x128 .fp8e4m3 :=
  arg11.view.readAt (Elt F) (Rect.unit (s := S8x768x128) off S1x256x128.size inb).toLoadRect X_arg11
/-- 128 rows of values. -/
abbrev ldV1 (off : Fin 3 → ℕ) (inb : ∀ a, off a + S1x128x128.size a ≤ S8x768x128.size a) : Vec F S1x128x128 .fp8e4m3 :=
  arg12.view.readAt (Elt F) (Rect.unit (s := S8x768x128) off S1x128x128.size inb).toLoadRect X_arg12
/-- 256 rows of values. -/
abbrev ldV2 (off : Fin 3 → ℕ) (inb : ∀ a, off a + S1x256x128.size a ≤ S8x768x128.size a) : Vec F S1x256x128 .fp8e4m3 :=
  arg12.view.readAt (Elt F) (Rect.unit (s := S8x768x128) off S1x256x128.size inb).toLoadRect X_arg12
/-- One query scale. -/
abbrev ldA (off : Fin 3 → ℕ) (inb : ∀ a, off a + S1x1x1.size a ≤ S6x2x40.size a) : F .f32 :=
  arg3.view.readAt (Elt F) (Rect.unit (s := S6x2x40) off S1x1x1.size inb).toLoadRect X_arg3 (Shape.Idx.first (numel1_S1x1x1.symm ▸ Nat.one_pos : 0 < S1x1x1.numel))
/-- One key scale. -/
abbrev ldB (off : Fin 3 → ℕ) (inb : ∀ a, off a + S1x1x1.size a ≤ S6x2x8.size a) : F .f32 :=
  arg4.view.readAt (Elt F) (Rect.unit (s := S6x2x8) off S1x1x1.size inb).toLoadRect X_arg4 (Shape.Idx.first (numel1_S1x1x1.symm ▸ Nat.one_pos : 0 < S1x1x1.numel))
/-- One row of value scales. -/
abbrev ldS (off : Fin 2 → ℕ) (inb : ∀ a, off a + S1x128.size a ≤ S8x128.size a) : Vec F S1x128 .f32 :=
  arg5.view.readAt (Elt F) (Rect.unit (s := S8x128) off S1x128.size inb).toLoadRect X_arg5
/-- The packed mask. -/
abbrev ldM : Vec F S32x128 .i32 :=
  arg13.view.readAt (Elt F) (Rect.unit (s := S32x128) ![0, 0] S32x128.size inb_S32x128_S32x128_0_0).toLoadRect X_arg13

/-- The pieces one trip of loop 1 stores. -/
theorem tripL1_eq (k0_h : k0_cond2 i = 1#1) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off14 k (BitVec.ofNat 32 h.val)) S1x128x128.size (k0_off14_inb i k k0_h h),
      outOf (oneChunk (ldQ arg10 X_arg10 _ (k0_off9_inb i k k0_h)) (ldK1 arg11 X_arg11 _ (k0_off10_inb i k k0_h)) (ldV1 arg12 X_arg12 _ (k0_off10_inb i k k0_h)) (fun h => ldA arg3 X_arg3 (k0_off11 i k (BitVec.ofNat 32 h.val)) (k0_off11_inb i k k0_h h))
        (ldB arg4 X_arg4 _ (k0_off12_inb i k k0_h)) (k0_pay1 ps) (ldM arg13 X_arg13))
      (ldS arg5 X_arg5 _ (k0_off13_inb i k k0_h)) ps h⟩ := by
  unfold tripL_k0_t1 trip_k0_t1
  sl_kernel_rfl

/-- The pieces one trip of loop 2 stores. -/
theorem tripL2_eq (k0_h : k0_cond3 i = 1#1) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off21 k (BitVec.ofNat 32 h.val)) S1x128x128.size (k0_off21_inb i k k0_h h),
      outOf (twoChunk (ldQ arg10 X_arg10 _ (k0_off15_inb i k k0_h)) (ldK2 arg11 X_arg11 _ (k0_off16_inb i k k0_h)) (ldV2 arg12 X_arg12 _ (k0_off16_inb i k k0_h)) (fun h => ldA arg3 X_arg3 (k0_off17 i k (BitVec.ofNat 32 h.val)) (k0_off17_inb i k k0_h h))
        (ldB arg4 X_arg4 _ (k0_off18_inb i k k0_h)) (ldB arg4 X_arg4 _ (k0_off19_inb i k k0_h)) (k0_pay1 ps) (maskOf (ldM arg13 X_arg13)))
      (ldS arg5 X_arg5 _ (k0_off20_inb i k k0_h)) ps h⟩ := by
  unfold tripL_k0_t2 trip_k0_t2
  sl_kernel_rfl

/-- The pieces one trip of loop 3 stores. -/
theorem tripL3_eq (k0_h : k0_cond4 i = 1#1) (k : Fin k0_t3_loop.trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off30 k (BitVec.ofNat 32 h.val)) S1x128x128.size (k0_off30_inb i k k0_h h),
      outOf (addf (twoChunk (ldQ arg10 X_arg10 _ (k0_off22_inb i k k0_h)) (ldK2 arg11 X_arg11 _ (k0_off23_inb i k k0_h)) (ldV2 arg12 X_arg12 _ (k0_off23_inb i k k0_h)) (fun h => ldA arg3 X_arg3 (k0_off24 i k (BitVec.ofNat 32 h.val)) (k0_off24_inb i k k0_h h))
        (ldB arg4 X_arg4 _ (k0_off25_inb i k k0_h)) (ldB arg4 X_arg4 _ (k0_off26_inb i k k0_h)) (k0_pay1 ps) id)
      (oneChunk (ldQ arg10 X_arg10 _ (k0_off22_inb i k k0_h)) (ldK1 arg11 X_arg11 _ (k0_off27_inb i k k0_h)) (ldV1 arg12 X_arg12 _ (k0_off27_inb i k k0_h)) (fun h => ldA arg3 X_arg3 (k0_off24 i k (BitVec.ofNat 32 h.val)) (k0_off24_inb i k k0_h h))
        (ldB arg4 X_arg4 _ (k0_off28_inb i k k0_h)) (k0_pay1 ps) (ldM arg13 X_arg13)))
      (ldS arg5 X_arg5 _ (k0_off29_inb i k k0_h)) ps h⟩ := by
  unfold tripL_k0_t3 trip_k0_t3
  sl_kernel_rfl

/-- The pieces one trip of loop 4 stores. -/
theorem tripL4_eq (k0_h : k0_cond5 i = 1#1) (k : Fin k0_t4_loop.trips) :
    tripL_k0_t4 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off40 k (BitVec.ofNat 32 h.val)) S1x128x128.size (k0_off40_inb i k k0_h h),
      outOf (addf (twoChunk (ldQ arg10 X_arg10 _ (k0_off31_inb i k k0_h)) (ldK2 arg11 X_arg11 _ (k0_off32_inb i k k0_h)) (ldV2 arg12 X_arg12 _ (k0_off32_inb i k k0_h)) (fun h => ldA arg3 X_arg3 (k0_off33 i k (BitVec.ofNat 32 h.val)) (k0_off33_inb i k k0_h h))
        (ldB arg4 X_arg4 _ (k0_off34_inb i k k0_h)) (ldB arg4 X_arg4 _ (k0_off35_inb i k k0_h)) (k0_pay1 ps) id)
      (twoChunk (ldQ arg10 X_arg10 _ (k0_off31_inb i k k0_h)) (ldK2 arg11 X_arg11 _ (k0_off36_inb i k k0_h)) (ldV2 arg12 X_arg12 _ (k0_off36_inb i k k0_h)) (fun h => ldA arg3 X_arg3 (k0_off33 i k (BitVec.ofNat 32 h.val)) (k0_off33_inb i k k0_h h))
        (ldB arg4 X_arg4 _ (k0_off37_inb i k k0_h)) (ldB arg4 X_arg4 _ (k0_off38_inb i k k0_h)) (k0_pay1 ps) (maskOf (ldM arg13 X_arg13))))
      (ldS arg5 X_arg5 _ (k0_off39_inb i k k0_h)) ps h⟩ := by
  unfold tripL_k0_t4 trip_k0_t4
  sl_kernel_rfl

/-- The pieces one trip of loop 5 stores. -/
theorem tripL5_eq (k0_h : k0_cond6 i = 1#1) (k : Fin k0_t5_loop.trips) :
    tripL_k0_t5 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off52 k (BitVec.ofNat 32 h.val)) S1x128x128.size (k0_off52_inb i k k0_h h),
      outOf (addf (addf (twoChunk (ldQ arg10 X_arg10 _ (k0_off41_inb i k k0_h)) (ldK2 arg11 X_arg11 _ (k0_off42_inb i k k0_h)) (ldV2 arg12 X_arg12 _ (k0_off42_inb i k k0_h)) (fun h => ldA arg3 X_arg3 (k0_off43 i k (BitVec.ofNat 32 h.val)) (k0_off43_inb i k k0_h h))
        (ldB arg4 X_arg4 _ (k0_off44_inb i k k0_h)) (ldB arg4 X_arg4 _ (k0_off45_inb i k k0_h)) (k0_pay1 ps) id)
      (twoChunk (ldQ arg10 X_arg10 _ (k0_off41_inb i k k0_h)) (ldK2 arg11 X_arg11 _ (k0_off46_inb i k k0_h)) (ldV2 arg12 X_arg12 _ (k0_off46_inb i k k0_h)) (fun h => ldA arg3 X_arg3 (k0_off43 i k (BitVec.ofNat 32 h.val)) (k0_off43_inb i k k0_h h))
        (ldB arg4 X_arg4 _ (k0_off47_inb i k k0_h)) (ldB arg4 X_arg4 _ (k0_off48_inb i k k0_h)) (k0_pay1 ps) id))
      (oneChunk (ldQ arg10 X_arg10 _ (k0_off41_inb i k k0_h)) (ldK1 arg11 X_arg11 _ (k0_off49_inb i k k0_h)) (ldV1 arg12 X_arg12 _ (k0_off49_inb i k k0_h)) (fun h => ldA arg3 X_arg3 (k0_off43 i k (BitVec.ofNat 32 h.val)) (k0_off43_inb i k k0_h h))
        (ldB arg4 X_arg4 _ (k0_off50_inb i k k0_h)) (k0_pay1 ps) (ldM arg13 X_arg13)))
      (ldS arg5 X_arg5 _ (k0_off51_inb i k k0_h)) ps h⟩ := by
  unfold tripL_k0_t5 trip_k0_t5
  sl_kernel_rfl

/-- The pieces one trip of loop 6 stores. -/
theorem tripL6_eq (k0_h : k0_cond7 i = 1#1) (k : Fin k0_t6_loop.trips) :
    tripL_k0_t6 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k
    = five fun h => ⟨Rect.unit (s := S1x128x5120) (k0_off65 k (BitVec.ofNat 32 h.val)) S1x128x128.size (k0_off65_inb i k k0_h h),
      outOf (addf (addf (twoChunk (ldQ arg10 X_arg10 _ (k0_off53_inb i k k0_h)) (ldK2 arg11 X_arg11 _ (k0_off54_inb i k k0_h)) (ldV2 arg12 X_arg12 _ (k0_off54_inb i k k0_h)) (fun h => ldA arg3 X_arg3 (k0_off55 i k (BitVec.ofNat 32 h.val)) (k0_off55_inb i k k0_h h))
        (ldB arg4 X_arg4 _ (k0_off56_inb i k k0_h)) (ldB arg4 X_arg4 _ (k0_off57_inb i k k0_h)) (k0_pay1 ps) id)
      (twoChunk (ldQ arg10 X_arg10 _ (k0_off53_inb i k k0_h)) (ldK2 arg11 X_arg11 _ (k0_off58_inb i k k0_h)) (ldV2 arg12 X_arg12 _ (k0_off58_inb i k k0_h)) (fun h => ldA arg3 X_arg3 (k0_off55 i k (BitVec.ofNat 32 h.val)) (k0_off55_inb i k k0_h h))
        (ldB arg4 X_arg4 _ (k0_off59_inb i k k0_h)) (ldB arg4 X_arg4 _ (k0_off60_inb i k k0_h)) (k0_pay1 ps) id))
      (twoChunk (ldQ arg10 X_arg10 _ (k0_off53_inb i k k0_h)) (ldK2 arg11 X_arg11 _ (k0_off61_inb i k k0_h)) (ldV2 arg12 X_arg12 _ (k0_off61_inb i k k0_h)) (fun h => ldA arg3 X_arg3 (k0_off55 i k (BitVec.ofNat 32 h.val)) (k0_off55_inb i k k0_h h))
        (ldB arg4 X_arg4 _ (k0_off62_inb i k k0_h)) (ldB arg4 X_arg4 _ (k0_off63_inb i k k0_h)) (k0_pay1 ps) (maskOf (ldM arg13 X_arg13))))
      (ldS arg5 X_arg5 _ (k0_off64_inb i k k0_h)) ps h⟩ := by
  unfold tripL_k0_t6 trip_k0_t6
  sl_kernel_rfl

end loads

end Cert.KernelIdeal.Hand
-- ==== Proof.Blocks.lean ====
module

public import proofs.«01_k».proof.Proof.Gen.KernelIdeal.Frame
public import proofs.«01_k».proof.Proof.Gen.KernelIdeal.Loops
public import proofs.«01_k».proof.Proof.Attend
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The whole output block of one grid point, as a function of the arrays the head loops read. -/

/-- The batch entry of a grid point. -/
def bOf (i : grid0.Coords) : Fin 2 := i 0
/-- The run of a grid point. -/
def nOf (i : grid0.Coords) : Fin 6 := i 1

/-- The query rows of key head `g`. -/
def blkQ (Q : Vec F S8x640x128 .fp8e4m3) (g : Fin 8) : Vec F S1x640x128 .fp8e4m3 :=
  fun y => Q (ix3 g (y 1) (y 2))
/-- Rows of run `n` of head `g` of the keys or the values. -/
def blk1 (K : Vec F S8x768x128 .fp8e4m3) (g : Fin 8) (n : Fin 6) : Vec F S1x128x128 .fp8e4m3 :=
  fun y => K (ix3 g ⟨128 * n.val + (y 1).val, by have h : (y 1).val < 128 := (y 1).isLt; have := n.isLt; omega⟩ (y 2))
/-- Rows of runs `2 j` and `2 j + 1` of head `g` of the keys or the values. -/
def blk2 (K : Vec F S8x768x128 .fp8e4m3) (g : Fin 8) (j : Fin 3) : Vec F S1x256x128 .fp8e4m3 :=
  fun y => K (ix3 g ⟨256 * j.val + (y 1).val, by have h : (y 1).val < 256 := (y 1).isLt; have := j.isLt; omega⟩ (y 2))
/-- Row `g` of the value scales. -/
def blkS (S : Vec F S8x128 .f32) (g : Fin 8) : Vec F S1x128 .f32 := fun y => S (ix2 g (y 1))

section loads
variable (arg3 : Memref sig .tc .smem S6x2x40 .f32) (arg4 : Memref sig .tc .smem S6x2x8 .f32)
  (arg5 : Memref sig .tc .vmem S8x128 .f32) (arg10 : Memref sig .tc .vmem S8x640x128 .fp8e4m3)
  (arg11 arg12 : Memref sig .tc .vmem S8x768x128 .fp8e4m3) (arg13 : Memref sig .tc .vmem S32x128 .i32)

/-- Loading one group of the queries' scratch gives that group of the array it holds. -/
theorem ldQ_eq (X : BufTy.Contents (Elt F) arg10.view.ty) (Q : Vec F S8x640x128 .fp8e4m3)
    (h : arg10.view.read (Elt F) X = Q) (g : Fin 8) (off inb) (ho : off = ![g.val, 0, 0]) :
    ldQ arg10 X off inb = blkQ Q g := by
  subst h ho; funext y
  show arg10.view.read (Elt F) X _ = arg10.view.read (Elt F) X _
  congr 1
  refine Rect.emb_eq_of_coords _ _ _ fun a => ?_
  have h0 : (y 0).val < 1 := (y 0).isLt
  fin_cases a <;> simp [Rect.unit, ix3] <;> omega

/-- Loading one run of a group's keys gives those rows of the array the keys' scratch holds. -/
theorem ldK1_eq (X : BufTy.Contents (Elt F) arg11.view.ty) (K : Vec F S8x768x128 .fp8e4m3)
    (h : arg11.view.read (Elt F) X = K) (g : Fin 8) (n : Fin 6) (off inb) (ho : off = ![g.val, 128 * n.val, 0]) :
    ldK1 arg11 X off inb = blk1 K g n := by
  subst h ho; funext y
  show arg11.view.read (Elt F) X _ = arg11.view.read (Elt F) X _
  congr 1
  refine Rect.emb_eq_of_coords _ _ _ fun a => ?_
  have h0 : (y 0).val < 1 := (y 0).isLt
  fin_cases a <;> simp [Rect.unit, ix3] <;> omega

/-- Loading two runs of a group's keys gives those rows of the array the keys' scratch holds. -/
theorem ldK2_eq (X : BufTy.Contents (Elt F) arg11.view.ty) (K : Vec F S8x768x128 .fp8e4m3)
    (h : arg11.view.read (Elt F) X = K) (g : Fin 8) (j : Fin 3) (off inb) (ho : off = ![g.val, 256 * j.val, 0]) :
    ldK2 arg11 X off inb = blk2 K g j := by
  subst h ho; funext y
  show arg11.view.read (Elt F) X _ = arg11.view.read (Elt F) X _
  congr 1
  refine Rect.emb_eq_of_coords _ _ _ fun a => ?_
  have h0 : (y 0).val < 1 := (y 0).isLt
  fin_cases a <;> simp [Rect.unit, ix3] <;> omega

/-- Loading one run of a group's values gives those rows of the array the values' scratch holds. -/
theorem ldV1_eq (X : BufTy.Contents (Elt F) arg12.view.ty) (K : Vec F S8x768x128 .fp8e4m3)
    (h : arg12.view.read (Elt F) X = K) (g : Fin 8) (n : Fin 6) (off inb) (ho : off = ![g.val, 128 * n.val, 0]) :
    ldV1 arg12 X off inb = blk1 K g n := by
  subst h ho; funext y
  show arg12.view.read (Elt F) X _ = arg12.view.read (Elt F) X _
  congr 1
  refine Rect.emb_eq_of_coords _ _ _ fun a => ?_
  have h0 : (y 0).val < 1 := (y 0).isLt
  fin_cases a <;> simp [Rect.unit, ix3] <;> omega

/-- Loading two runs of a group's values gives those rows of the array the values' scratch holds. -/
theorem ldV2_eq (X : BufTy.Contents (Elt F) arg12.view.ty) (K : Vec F S8x768x128 .fp8e4m3)
    (h : arg12.view.read (Elt F) X = K) (g : Fin 8) (j : Fin 3) (off inb) (ho : off = ![g.val, 256 * j.val, 0]) :
    ldV2 arg12 X off inb = blk2 K g j := by
  subst h ho; funext y
  show arg12.view.read (Elt F) X _ = arg12.view.read (Elt F) X _
  congr 1
  refine Rect.emb_eq_of_coords _ _ _ fun a => ?_
  have h0 : (y 0).val < 1 := (y 0).isLt
  fin_cases a <;> simp [Rect.unit, ix3] <;> omega

/-- Loading one queries' scale gives that entry of the staged scales. -/
theorem ldA_eq (X : BufTy.Contents (Elt F) arg3.view.ty) (A : Vec F S6x2x40 .f32)
    (h : arg3.view.read (Elt F) X = A) (n : Fin 6) (b : Fin 2) (g : Fin 40) (off inb)
    (ho : off = ![n.val, b.val, g.val]) : ldA arg3 X off inb = A (ix3 n b g) := by
  subst h ho
  show arg3.view.read (Elt F) X _ = arg3.view.read (Elt F) X _
  congr 1
  refine Rect.emb_eq_of_coords _ _ _ fun a => ?_
  fin_cases a <;> simp [Rect.unit, ix3, Shape.Idx.first]

/-- Loading one keys' scale gives that entry of the staged scales. -/
theorem ldB_eq (X : BufTy.Contents (Elt F) arg4.view.ty) (A : Vec F S6x2x8 .f32)
    (h : arg4.view.read (Elt F) X = A) (n : Fin 6) (b : Fin 2) (g : Fin 8) (off inb)
    (ho : off = ![n.val, b.val, g.val]) : ldB arg4 X off inb = A (ix3 n b g) := by
  subst h ho
  show arg4.view.read (Elt F) X _ = arg4.view.read (Elt F) X _
  congr 1
  refine Rect.emb_eq_of_coords _ _ _ fun a => ?_
  fin_cases a <;> simp [Rect.unit, ix3, Shape.Idx.first]

/-- Loading one group's row of the values' scales gives that row. -/
theorem ldS_eq (X : BufTy.Contents (Elt F) arg5.view.ty) (S : Vec F S8x128 .f32)
    (h : arg5.view.read (Elt F) X = S) (g : Fin 8) (off inb) (ho : off = ![g.val, 0]) :
    ldS arg5 X off inb = blkS S g := by
  subst h ho; funext y
  show arg5.view.read (Elt F) X _ = arg5.view.read (Elt F) X _
  congr 1
  refine Rect.emb_eq_of_coords _ _ _ fun a => ?_
  have h0 : (y 0).val < 1 := (y 0).isLt
  fin_cases a <;> simp [Rect.unit, ix2] <;> omega

/-- Loading the mask's scratch gives the words it holds. -/
theorem ldM_eq (X : BufTy.Contents (Elt F) arg13.view.ty) (M : Vec F S32x128 .i32)
    (h : arg13.view.read (Elt F) X = M) : ldM arg13 X = M := by
  subst h; funext y
  show arg13.view.read (Elt F) X _ = arg13.view.read (Elt F) X _
  congr 1
  refine Rect.emb_eq_of_coords _ _ _ fun a => ?_
  fin_cases a <;> simp [Rect.unit]
end loads

section acc
variable (Q : Vec F S8x640x128 .fp8e4m3) (K V : Vec F S8x768x128 .fp8e4m3) (qsc : Vec F S6x2x40 .f32)
  (ksc : Vec F S6x2x8 .f32) (M : Vec F S32x128 .i32) (inv : F .f32) (b : Fin 2) (g : Fin 8)

/-- The query scales of run `n`, batch entry `b`, key head `g`. -/
def qaOf (n : Fin 6) (h : Fin 5) : F .f32 := qsc (ix3 n b ⟨5 * g.val + h.val, by omega⟩)

/-- Run `n` of keys alone, masked (the diagonal block of an even run). -/
def one (n : Fin 6) : FVec F S640x128 .f32 :=
  oneChunk (blkQ Q g) (blk1 K g n) (blk1 V g n) (qaOf qsc b g n) (ksc (ix3 n b g)) inv M

/-- Runs `2 j` and `2 j + 1` of keys for the queries of run `n`. -/
def two (j : Fin 3) (n : Fin 6) (f : FVec F S128x128 .fp8e4m3 → FVec F S128x128 .fp8e4m3) : FVec F S640x128 .f32 :=
  twoChunk (blkQ Q g) (blk2 K g j) (blk2 V g j) (qaOf qsc b g n)
    (ksc (ix3 ⟨2 * j.val, by omega⟩ b g)) (ksc (ix3 ⟨2 * j.val + 1, by omega⟩ b g)) inv f

/-- The attention sum of the queries of run `n` over the keys they see. -/
def acc : Fin 6 → FVec F S640x128 .f32
  | 0 => one Q K V qsc ksc M inv b g 0
  | 1 => two Q K V qsc ksc inv b g 0 1 (maskOf M)
  | 2 => addf (two Q K V qsc ksc inv b g 0 2 id) (one Q K V qsc ksc M inv b g 2)
  | 3 => addf (two Q K V qsc ksc inv b g 0 3 id) (two Q K V qsc ksc inv b g 1 3 (maskOf M))
  | 4 => addf (addf (two Q K V qsc ksc inv b g 0 4 id) (two Q K V qsc ksc inv b g 1 4 id)) (one Q K V qsc ksc M inv b g 4)
  | 5 => addf (addf (two Q K V qsc ksc inv b g 0 5 id) (two Q K V qsc ksc inv b g 1 5 id)) (two Q K V qsc ksc inv b g 2 5 (maskOf M))
end acc

/-- The output block of run `n`, batch entry `b`: 40 heads of 128 columns side by side. -/
def outBlk (Q : Vec F S8x640x128 .fp8e4m3) (K V : Vec F S8x768x128 .fp8e4m3) (qsc : Vec F S6x2x40 .f32)
    (ksc : Vec F S6x2x8 .f32) (vsc : Vec F S8x128 .f32) (M : Vec F S32x128 .i32) (ps : F .f32) (b : Fin 2) (n : Fin 6) :
    Vec F S1x128x5120 .bf16 :=
  fun y => outOf (acc Q K V qsc ksc M (k0_pay1 ps) b
      ⟨(y 2).val / 640, by have h : (y 2).val < 5120 := (y 2).isLt; omega⟩ n)
    (blkS vsc ⟨(y 2).val / 640, by have h : (y 2).val < 5120 := (y 2).isLt; omega⟩) ps
    ⟨(y 2).val / 128 % 5, by omega⟩ (ix3 0 (y 1) ⟨(y 2).val % 128, by omega⟩)

/-- An element of one piece, read back through its place in the block. -/
theorem piece_at (G : Fin 8 → Fin 5 → Vec F S1x128x128 .bf16) (k : Fin 8) (h : Fin 5) (off : Fin 3 → ℕ)
    (inb : ∀ a, off a + S1x128x128.size a ≤ S1x128x5120.size a) (ho : off = ![0, 0, 640 * k.val + 128 * h.val])
    (x : S1x128x128.Idx) (y : S1x128x5120.Idx := (Rect.unit (s := S1x128x5120) off S1x128x128.size inb).emb x)
    (hy : y = (Rect.unit (s := S1x128x5120) off S1x128x128.size inb).emb x := by rfl) :
    G ⟨(y 2).val / 640, by have h : (y 2).val < 5120 := (y 2).isLt; omega⟩ ⟨(y 2).val / 128 % 5, by omega⟩
        (ix3 0 (y 1) ⟨(y 2).val % 128, by omega⟩) = G k h x := by
  subst ho
  have hx0 : (x 0).val < 1 := (x 0).isLt
  have hx2 : (x 2).val < 128 := (x 2).isLt
  have e2 : (y 2).val = 640 * k.val + 128 * h.val + (x 2).val := by
    rw [hy]; show 640 * k.val + 128 * h.val + 1 * (x 2).val = _; omega
  have e1 : (y 1).val = (x 1).val := by
    rw [hy]; show 0 + 1 * (x 1).val = _; omega
  have a1 : (⟨(y 2).val / 640, by have h : (y 2).val < 5120 := (y 2).isLt; omega⟩ : Fin 8) = k :=
    Fin.ext (by show (y 2).val / 640 = _; omega)
  have a2 : (⟨(y 2).val / 128 % 5, by omega⟩ : Fin 5) = h := Fin.ext (by show (y 2).val / 128 % 5 = _; omega)
  have a3 : (ix3 0 (y 1) ⟨(y 2).val % 128, by omega⟩ : S1x128x128.Idx) = x := by
    funext a
    fin_cases a
    · exact Fin.ext (by show 0 = (x 0).val; omega)
    · exact Fin.ext e1
    · exact Fin.ext (by show (y 2).val % 128 = (x 2).val; omega)
  rw [a1, a2, a3]

/-- Eight trips of five pieces at columns `640 k + 128 h` fill the output block. -/
theorem read_pieces (arg9 : Memref sig .tc .vmem S1x128x5120 .bf16) (f : BufTy.Contents (Elt F) arg9.view.ty)
    {N : ℕ} (hN : N = 8) (T : Fin N → List (View.Piece (Elt F) S1x128x5120 .bf16))
    (pb : ℕ → List (View.Piece (Elt F) S1x128x5120 .bf16)) (h0 : pb 0 = [])
    (hs : ∀ k : Fin N, pb (k.val + 1) = T k ++ pb k.val)
    (off : Fin N → Fin 5 → Fin 3 → ℕ) (inb : ∀ k h a, off k h a + S1x128x128.size a ≤ S1x128x5120.size a)
    (val : Fin N → Fin 5 → Vec F S1x128x128 .bf16)
    (hT : ∀ k, T k = five fun h => ⟨Rect.unit (s := S1x128x5120) (off k h) S1x128x128.size (inb k h), val k h⟩)
    (hoff : ∀ k h, off k h = ![0, 0, 640 * k.val + 128 * h.val])
    (G : Fin 8 → Fin 5 → Vec F S1x128x128 .bf16) (hG : ∀ k h, val k h = G (k.cast hN) h) :
    arg9.view.read (Elt F) (arg9.view.writes (Elt F) f (pb N)) = fun y =>
      G ⟨(y 2).val / 640, by have h : (y 2).val < 5120 := (y 2).isLt; omega⟩ ⟨(y 2).val / 128 % 5, by omega⟩
        (ix3 0 (y 1) ⟨(y 2).val % 128, by omega⟩) := by
  subst hN
  have hmem : ∀ n, n ≤ 8 → ∀ p, p ∈ pb n ↔ ∃ k : Fin 8, k.val < n ∧ p ∈ T k := by
    intro n
    induction n with
    | zero => intro _ p; simp [h0]
    | succ n ih =>
      intro hn p
      have e : pb (n + 1) = T ⟨n, hn⟩ ++ pb n := hs ⟨n, hn⟩
      rw [e, List.mem_append, ih (by omega)]
      constructor
      · rintro (h | ⟨k, hk, h⟩)
        · exact ⟨⟨n, hn⟩, by simp, h⟩
        · exact ⟨k, by omega, h⟩
      · rintro ⟨k, hk, h⟩
        by_cases hkn : k.val < n
        · exact .inr ⟨k, hkn, h⟩
        · obtain rfl : k = ⟨n, hn⟩ := Fin.ext (by simp; omega)
          exact .inl h
  have hfive : ∀ k p, p ∈ T k ↔ ∃ h : Fin 5, p = ⟨Rect.unit (s := S1x128x5120) (off k h) S1x128x128.size (inb k h), val k h⟩ := by
    intro k p
    rw [hT k]
    simp only [five, List.mem_cons, List.not_mem_nil, or_false]
    constructor
    · rintro (h | h | h | h | h) <;> exact ⟨_, h⟩
    · rintro ⟨h, rfl⟩; fin_cases h <;> simp
  funext y
  refine View.read_writes_apply_of_pieces arg9.view f (fun y : S1x128x5120.Idx =>
      G ⟨(y 2).val / 640, by have h : (y 2).val < 5120 := (y 2).isLt; omega⟩ ⟨(y 2).val / 128 % 5, by omega⟩
        (ix3 0 (y 1) ⟨(y 2).val % 128, by omega⟩)) (pb 8) ?_ y ?_
  · intro p hp x
    obtain ⟨k, -, hp⟩ := (hmem 8 le_rfl p).mp hp
    obtain ⟨h, rfl⟩ := (hfive k p).mp hp
    have ho := hoff k h
    show val k h x = _
    rw [hG]
    exact (piece_at G k h _ (inb k h) ho x).symm
  · have hy0 : (y 0).val < 1 := (y 0).isLt
    have hy1 : (y 1).val < 128 := (y 1).isLt
    have hy2 : (y 2).val < 5120 := (y 2).isLt
    refine ⟨_, (hmem 8 le_rfl _).mpr ⟨⟨(y 2).val / 640, by omega⟩, by show _ / 640 < 8; omega,
      (hfive _ _).mpr ⟨⟨(y 2).val / 128 % 5, by omega⟩, rfl⟩⟩, ?_⟩
    rw [Rect.mem_set_unit]
    intro a
    rw [hoff]
    fin_cases a <;> simp <;> omega

section loops
variable (c : Dev nD) (i : grid0.Coords) (arg2 : Memref sig .tc .smem S1x1 .f32) (harg2 : arg2.IsWhole) (arg3 : Memref sig .tc .smem S6x2x40 .f32) (harg3 : arg3.IsWhole) (arg4 : Memref sig .tc .smem S6x2x8 .f32) (harg4 : arg4.IsWhole) (arg5 : Memref sig .tc .vmem S8x128 .f32) (harg5 : arg5.IsWhole) (arg6 : Memref sig .tc .vmem S1x5120x128 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x128x5120 .bf16) (harg9 : arg9.IsWhole) (arg10 : Memref sig .tc .vmem S8x640x128 .fp8e4m3) (harg10 : arg10.IsWhole) (arg11 : Memref sig .tc .vmem S8x768x128 .fp8e4m3) (harg11 : arg11.IsWhole) (arg12 : Memref sig .tc .vmem S8x768x128 .fp8e4m3) (harg12 : arg12.IsWhole) (arg13 : Memref sig .tc .vmem S32x128 .i32) (harg13 : arg13.IsWhole) (arg0 : BitVec 32) (ps : Elt F .f32) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)
  (Q : Vec F S8x640x128 .fp8e4m3) (K V : Vec F S8x768x128 .fp8e4m3) (qsc : Vec F S6x2x40 .f32)
  (ksc : Vec F S6x2x8 .f32) (vsc : Vec F S8x128 .f32) (M : Vec F S32x128 .i32)
  (h3 : arg3.view.read (Elt F) X_arg3 = qsc) (h4 : arg4.view.read (Elt F) X_arg4 = ksc)
  (h5 : arg5.view.read (Elt F) X_arg5 = vsc) (h10 : arg10.view.read (Elt F) X_arg10 = Q)
  (h11 : arg11.view.read (Elt F) X_arg11 = K) (h12 : arg12.view.read (Elt F) X_arg12 = V)
  (h13 : arg13.view.read (Elt F) X_arg13 = M) (f9 : BufTy.Contents (Elt F) arg9.view.ty)
include h3 h4 h5 h10 h11 h12 h13

/-- What loop 1 leaves in the output block. -/
theorem loop1_read (k0_h : k0_cond2 i = 1#1) :
    arg9.view.read (Elt F) (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t1_loop.trips))
    = outBlk Q K V qsc ksc vsc M ps (bOf i) 0 := by
  refine read_pieces arg9 f9 (N := k0_t1_loop.trips) (by decide) _ _ rfl (fun k => pb_k0_t1_succ _ _ _ _ _ _ _ _ _ _ _ _ _ _ _ _ _ _ _ _ _ _ _ _ _ _ _ _ _ _ _ _ _ _ _ _ _ _ k)
    _ _ _ (fun k => tripL1_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off14_eq k h)
    (fun g h => outOf (acc Q K V qsc ksc M (k0_pay1 ps) (bOf i) g 0) (blkS vsc g) ps h) fun k h => ?_
  have hk8 : k.val < 8 := k.isLt
  have hqa : (fun h : Fin 5 => ldA arg3 X_arg3 (k0_off11 i k (BitVec.ofNat 32 h.val)) (k0_off11_inb i k k0_h h))
      = qaOf qsc (bOf i) (⟨k.val, hk8⟩ : Fin 8) 0 :=
    funext fun h => ldA_eq arg3 X_arg3 qsc h3 0 (bOf i) ⟨5 * k.val + h.val, by omega⟩ _ _ (k0_off11_eq i k h)

  rw [hqa, ldQ_eq arg10 X_arg10 Q h10 ⟨k.val, hk8⟩ _ _ (k0_off9_eq k),
    ldK1_eq arg11 X_arg11 K h11 ⟨k.val, hk8⟩ 0 _ _ (k0_off10_eq k),
    ldV1_eq arg12 X_arg12 V h12 ⟨k.val, hk8⟩ 0 _ _ (k0_off10_eq k),
    ldB_eq arg4 X_arg4 ksc h4 0 (bOf i) ⟨k.val, hk8⟩ _ _ (k0_off12_eq i k),
    ldS_eq arg5 X_arg5 vsc h5 ⟨k.val, hk8⟩ _ _ (k0_off13_eq k),
    ldM_eq arg13 X_arg13 M h13]
  rfl

/-- What loop 2 leaves in the output block. -/
theorem loop2_read (k0_h : k0_cond3 i = 1#1) :
    arg9.view.read (Elt F) (arg9.view.writes (Elt F) f9 (pb_k0_t2 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t2_loop.trips))
    = outBlk Q K V qsc ksc vsc M ps (bOf i) 1 := by
  refine read_pieces arg9 f9 (N := k0_t2_loop.trips) (by decide) _ _ rfl (fun k => pb_k0_t2_succ _ _ _ _ _ _ _ _ _ _ _ _ _ _ _ _ _ _ _ _ _ _ _ _ _ _ _ _ _ _ _ _ _ _ _ _ _ _ k)
    _ _ _ (fun k => tripL2_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off21_eq k h)
    (fun g h => outOf (acc Q K V qsc ksc M (k0_pay1 ps) (bOf i) g 1) (blkS vsc g) ps h) fun k h => ?_
  have hk8 : k.val < 8 := k.isLt
  have hqa : (fun h : Fin 5 => ldA arg3 X_arg3 (k0_off17 i k (BitVec.ofNat 32 h.val)) (k0_off17_inb i k k0_h h))
      = qaOf qsc (bOf i) (⟨k.val, hk8⟩ : Fin 8) 1 :=
    funext fun h => ldA_eq arg3 X_arg3 qsc h3 1 (bOf i) ⟨5 * k.val + h.val, by omega⟩ _ _ (k0_off17_eq i k h)

  rw [hqa, ldQ_eq arg10 X_arg10 Q h10 ⟨k.val, hk8⟩ _ _ (k0_off15_eq k),
    ldK2_eq arg11 X_arg11 K h11 ⟨k.val, hk8⟩ 0 _ _ (k0_off16_eq k),
    ldV2_eq arg12 X_arg12 V h12 ⟨k.val, hk8⟩ 0 _ _ (k0_off16_eq k),
    ldB_eq arg4 X_arg4 ksc h4 0 (bOf i) ⟨k.val, hk8⟩ _ _ (k0_off18_eq i k),
    ldB_eq arg4 X_arg4 ksc h4 1 (bOf i) ⟨k.val, hk8⟩ _ _ (k0_off19_eq i k),
    ldS_eq arg5 X_arg5 vsc h5 ⟨k.val, hk8⟩ _ _ (k0_off20_eq k),
    ldM_eq arg13 X_arg13 M h13]
  rfl

/-- What loop 3 leaves in the output block. -/
theorem loop3_read (k0_h : k0_cond4 i = 1#1) :
    arg9.view.read (Elt F) (arg9.view.writes (Elt F) f9 (pb_k0_t3 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t3_loop.trips))
    = outBlk Q K V qsc ksc vsc M ps (bOf i) 2 := by
  refine read_pieces arg9 f9 (N := k0_t3_loop.trips) (by decide) _ _ rfl (fun k => pb_k0_t3_succ _ _ _ _ _ _ _ _ _ _ _ _ _ _ _ _ _ _ _ _ _ _ _ _ _ _ _ _ _ _ _ _ _ _ _ _ _ _ k)
    _ _ _ (fun k => tripL3_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off30_eq k h)
    (fun g h => outOf (acc Q K V qsc ksc M (k0_pay1 ps) (bOf i) g 2) (blkS vsc g) ps h) fun k h => ?_
  have hk8 : k.val < 8 := k.isLt
  have hqa : (fun h : Fin 5 => ldA arg3 X_arg3 (k0_off24 i k (BitVec.ofNat 32 h.val)) (k0_off24_inb i k k0_h h))
      = qaOf qsc (bOf i) (⟨k.val, hk8⟩ : Fin 8) 2 :=
    funext fun h => ldA_eq arg3 X_arg3 qsc h3 2 (bOf i) ⟨5 * k.val + h.val, by omega⟩ _ _ (k0_off24_eq i k h)

  rw [hqa, ldQ_eq arg10 X_arg10 Q h10 ⟨k.val, hk8⟩ _ _ (k0_off22_eq k),
    ldK2_eq arg11 X_arg11 K h11 ⟨k.val, hk8⟩ 0 _ _ (k0_off23_eq k),
    ldV2_eq arg12 X_arg12 V h12 ⟨k.val, hk8⟩ 0 _ _ (k0_off23_eq k),
    ldB_eq arg4 X_arg4 ksc h4 0 (bOf i) ⟨k.val, hk8⟩ _ _ (k0_off25_eq i k),
    ldB_eq arg4 X_arg4 ksc h4 1 (bOf i) ⟨k.val, hk8⟩ _ _ (k0_off26_eq i k),
    ldK1_eq arg11 X_arg11 K h11 ⟨k.val, hk8⟩ 2 _ _ (k0_off27_eq k),
    ldV1_eq arg12 X_arg12 V h12 ⟨k.val, hk8⟩ 2 _ _ (k0_off27_eq k),
    ldB_eq arg4 X_arg4 ksc h4 2 (bOf i) ⟨k.val, hk8⟩ _ _ (k0_off28_eq i k),
    ldS_eq arg5 X_arg5 vsc h5 ⟨k.val, hk8⟩ _ _ (k0_off29_eq k),
    ldM_eq arg13 X_arg13 M h13]
  rfl

/-- What loop 4 leaves in the output block. -/
theorem loop4_read (k0_h : k0_cond5 i = 1#1) :
    arg9.view.read (Elt F) (arg9.view.writes (Elt F) f9 (pb_k0_t4 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t4_loop.trips))
    = outBlk Q K V qsc ksc vsc M ps (bOf i) 3 := by
  refine read_pieces arg9 f9 (N := k0_t4_loop.trips) (by decide) _ _ rfl (fun k => pb_k0_t4_succ _ _ _ _ _ _ _ _ _ _ _ _ _ _ _ _ _ _ _ _ _ _ _ _ _ _ _ _ _ _ _ _ _ _ _ _ _ _ k)
    _ _ _ (fun k => tripL4_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off40_eq k h)
    (fun g h => outOf (acc Q K V qsc ksc M (k0_pay1 ps) (bOf i) g 3) (blkS vsc g) ps h) fun k h => ?_
  have hk8 : k.val < 8 := k.isLt
  have hqa : (fun h : Fin 5 => ldA arg3 X_arg3 (k0_off33 i k (BitVec.ofNat 32 h.val)) (k0_off33_inb i k k0_h h))
      = qaOf qsc (bOf i) (⟨k.val, hk8⟩ : Fin 8) 3 :=
    funext fun h => ldA_eq arg3 X_arg3 qsc h3 3 (bOf i) ⟨5 * k.val + h.val, by omega⟩ _ _ (k0_off33_eq i k h)

  rw [hqa, ldQ_eq arg10 X_arg10 Q h10 ⟨k.val, hk8⟩ _ _ (k0_off31_eq k),
    ldK2_eq arg11 X_arg11 K h11 ⟨k.val, hk8⟩ 0 _ _ (k0_off32_eq k),
    ldV2_eq arg12 X_arg12 V h12 ⟨k.val, hk8⟩ 0 _ _ (k0_off32_eq k),
    ldB_eq arg4 X_arg4 ksc h4 0 (bOf i) ⟨k.val, hk8⟩ _ _ (k0_off34_eq i k),
    ldB_eq arg4 X_arg4 ksc h4 1 (bOf i) ⟨k.val, hk8⟩ _ _ (k0_off35_eq i k),
    ldK2_eq arg11 X_arg11 K h11 ⟨k.val, hk8⟩ 1 _ _ (k0_off36_eq k),
    ldV2_eq arg12 X_arg12 V h12 ⟨k.val, hk8⟩ 1 _ _ (k0_off36_eq k),
    ldB_eq arg4 X_arg4 ksc h4 2 (bOf i) ⟨k.val, hk8⟩ _ _ (k0_off37_eq i k),
    ldB_eq arg4 X_arg4 ksc h4 3 (bOf i) ⟨k.val, hk8⟩ _ _ (k0_off38_eq i k),
    ldS_eq arg5 X_arg5 vsc h5 ⟨k.val, hk8⟩ _ _ (k0_off39_eq k),
    ldM_eq arg13 X_arg13 M h13]
  rfl

/-- What loop 5 leaves in the output block. -/
theorem loop5_read (k0_h : k0_cond6 i = 1#1) :
    arg9.view.read (Elt F) (arg9.view.writes (Elt F) f9 (pb_k0_t5 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t5_loop.trips))
    = outBlk Q K V qsc ksc vsc M ps (bOf i) 4 := by
  refine read_pieces arg9 f9 (N := k0_t5_loop.trips) (by decide) _ _ rfl (fun k => pb_k0_t5_succ _ _ _ _ _ _ _ _ _ _ _ _ _ _ _ _ _ _ _ _ _ _ _ _ _ _ _ _ _ _ _ _ _ _ _ _ _ _ k)
    _ _ _ (fun k => tripL5_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off52_eq k h)
    (fun g h => outOf (acc Q K V qsc ksc M (k0_pay1 ps) (bOf i) g 4) (blkS vsc g) ps h) fun k h => ?_
  have hk8 : k.val < 8 := k.isLt
  have hqa : (fun h : Fin 5 => ldA arg3 X_arg3 (k0_off43 i k (BitVec.ofNat 32 h.val)) (k0_off43_inb i k k0_h h))
      = qaOf qsc (bOf i) (⟨k.val, hk8⟩ : Fin 8) 4 :=
    funext fun h => ldA_eq arg3 X_arg3 qsc h3 4 (bOf i) ⟨5 * k.val + h.val, by omega⟩ _ _ (k0_off43_eq i k h)

  rw [hqa, ldQ_eq arg10 X_arg10 Q h10 ⟨k.val, hk8⟩ _ _ (k0_off41_eq k),
    ldK2_eq arg11 X_arg11 K h11 ⟨k.val, hk8⟩ 0 _ _ (k0_off42_eq k),
    ldV2_eq arg12 X_arg12 V h12 ⟨k.val, hk8⟩ 0 _ _ (k0_off42_eq k),
    ldB_eq arg4 X_arg4 ksc h4 0 (bOf i) ⟨k.val, hk8⟩ _ _ (k0_off44_eq i k),
    ldB_eq arg4 X_arg4 ksc h4 1 (bOf i) ⟨k.val, hk8⟩ _ _ (k0_off45_eq i k),
    ldK2_eq arg11 X_arg11 K h11 ⟨k.val, hk8⟩ 1 _ _ (k0_off46_eq k),
    ldV2_eq arg12 X_arg12 V h12 ⟨k.val, hk8⟩ 1 _ _ (k0_off46_eq k),
    ldB_eq arg4 X_arg4 ksc h4 2 (bOf i) ⟨k.val, hk8⟩ _ _ (k0_off47_eq i k),
    ldB_eq arg4 X_arg4 ksc h4 3 (bOf i) ⟨k.val, hk8⟩ _ _ (k0_off48_eq i k),
    ldK1_eq arg11 X_arg11 K h11 ⟨k.val, hk8⟩ 4 _ _ (k0_off49_eq k),
    ldV1_eq arg12 X_arg12 V h12 ⟨k.val, hk8⟩ 4 _ _ (k0_off49_eq k),
    ldB_eq arg4 X_arg4 ksc h4 4 (bOf i) ⟨k.val, hk8⟩ _ _ (k0_off50_eq i k),
    ldS_eq arg5 X_arg5 vsc h5 ⟨k.val, hk8⟩ _ _ (k0_off51_eq k),
    ldM_eq arg13 X_arg13 M h13]
  rfl

/-- What loop 6 leaves in the output block. -/
theorem loop6_read (k0_h : k0_cond7 i = 1#1) :
    arg9.view.read (Elt F) (arg9.view.writes (Elt F) f9 (pb_k0_t6 (F := F) Variants.none c none i arg2 harg2 arg3 harg3 arg4 harg4 arg5 harg5 arg6 harg6 arg7 harg7 arg8 harg8 arg9 harg9 arg10 harg10 arg11 harg11 arg12 harg12 arg13 harg13 arg0 k0_h ps X_arg3 X_arg4 X_arg5 X_arg10 X_arg11 X_arg12 X_arg13 k0_t6_loop.trips))
    = outBlk Q K V qsc ksc vsc M ps (bOf i) 5 := by
  refine read_pieces arg9 f9 (N := k0_t6_loop.trips) (by decide) _ _ rfl (fun k => pb_k0_t6_succ _ _ _ _ _ _ _ _ _ _ _ _ _ _ _ _ _ _ _ _ _ _ _ _ _ _ _ _ _ _ _ _ _ _ _ _ _ _ k)
    _ _ _ (fun k => tripL6_eq c i arg2 harg2 arg3 harg3 arg4 harg4 arg5 harg5 arg6 harg6 arg7 harg7 arg8 harg8 arg9 harg9 arg10 harg10 arg11 harg11 arg12 harg12 arg13 harg13 arg0 ps X_arg3 X_arg4 X_arg5 X_arg10 X_arg11 X_arg12 X_arg13 k0_h k) (fun k h => k0_off65_eq k h)
    (fun g h => outOf (acc Q K V qsc ksc M (k0_pay1 ps) (bOf i) g 5) (blkS vsc g) ps h) fun k h => ?_
  have hk8 : k.val < 8 := k.isLt
  have hqa : (fun h : Fin 5 => ldA arg3 X_arg3 (k0_off55 i k (BitVec.ofNat 32 h.val)) (k0_off55_inb i k k0_h h))
      = qaOf qsc (bOf i) (⟨k.val, hk8⟩ : Fin 8) 5 :=
    funext fun h => ldA_eq arg3 X_arg3 qsc h3 5 (bOf i) ⟨5 * k.val + h.val, by omega⟩ _ _ (k0_off55_eq i k h)

  rw [hqa, ldQ_eq arg10 X_arg10 Q h10 ⟨k.val, hk8⟩ _ _ (k0_off53_eq k),
    ldK2_eq arg11 X_arg11 K h11 ⟨k.val, hk8⟩ 0 _ _ (k0_off54_eq k),
    ldV2_eq arg12 X_arg12 V h12 ⟨k.val, hk8⟩ 0 _ _ (k0_off54_eq k),
    ldB_eq arg4 X_arg4 ksc h4 0 (bOf i) ⟨k.val, hk8⟩ _ _ (k0_off56_eq i k),
    ldB_eq arg4 X_arg4 ksc h4 1 (bOf i) ⟨k.val, hk8⟩ _ _ (k0_off57_eq i k),
    ldK2_eq arg11 X_arg11 K h11 ⟨k.val, hk8⟩ 1 _ _ (k0_off58_eq k),
    ldV2_eq arg12 X_arg12 V h12 ⟨k.val, hk8⟩ 1 _ _ (k0_off58_eq k),
    ldB_eq arg4 X_arg4 ksc h4 2 (bOf i) ⟨k.val, hk8⟩ _ _ (k0_off59_eq i k),
    ldB_eq arg4 X_arg4 ksc h4 3 (bOf i) ⟨k.val, hk8⟩ _ _ (k0_off60_eq i k),
    ldK2_eq arg11 X_arg11 K h11 ⟨k.val, hk8⟩ 2 _ _ (k0_off61_eq k),
    ldV2_eq arg12 X_arg12 V h12 ⟨k.val, hk8⟩ 2 _ _ (k0_off61_eq k),
    ldB_eq arg4 X_arg4 ksc h4 4 (bOf i) ⟨k.val, hk8⟩ _ _ (k0_off62_eq i k),
    ldB_eq arg4 X_arg4 ksc h4 5 (bOf i) ⟨k.val, hk8⟩ _ _ (k0_off63_eq i k),
    ldS_eq arg5 X_arg5 vsc h5 ⟨k.val, hk8⟩ _ _ (k0_off64_eq k),
    ldM_eq arg13 X_arg13 M h13]
  rfl

end loops

end Cert.KernelIdeal.Hand
-- ==== Proof.RunVal.lean ====
module

public import proofs.«01_k».proof.Proof.Gen.KernelIdeal.Frame
public import proofs.«01_k».proof.Proof.Split
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the `scf.if` under which the body builds the mask: both coordinates zero. -/
abbrev condM (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The mask is written at the first point of all, and only there. -/
theorem hcondM (i : grid0.Coords) : condM i ↔ (i 0).val = 0 ∧ (i 1).val = 0 := by
  unfold condM
  generalize (i 0 : Fin 2) = y; generalize (i 1 : Fin 6) = x; revert x y; decide +kernel

/-! Each of the six branches is taken at exactly one run of tokens. -/

/-- The work on query run 0 is done at the points of that run. -/
theorem hcond2 (i : grid0.Coords) : k0_cond2 i = 1#1 ↔ (i 1).val = 0 := by
  unfold k0_cond2
  generalize (i 1 : Fin 6) = x; revert x; decide +kernel
/-- The work on query run 1 is done at the points of that run. -/
theorem hcond3 (i : grid0.Coords) : k0_cond3 i = 1#1 ↔ (i 1).val = 1 := by
  unfold k0_cond3
  generalize (i 1 : Fin 6) = x; revert x; decide +kernel
/-- The work on query run 2 is done at the points of that run. -/
theorem hcond4 (i : grid0.Coords) : k0_cond4 i = 1#1 ↔ (i 1).val = 2 := by
  unfold k0_cond4
  generalize (i 1 : Fin 6) = x; revert x; decide +kernel
/-- The work on query run 3 is done at the points of that run. -/
theorem hcond5 (i : grid0.Coords) : k0_cond5 i = 1#1 ↔ (i 1).val = 3 := by
  unfold k0_cond5
  generalize (i 1 : Fin 6) = x; revert x; decide +kernel
/-- The work on query run 4 is done at the points of that run. -/
theorem hcond6 (i : grid0.Coords) : k0_cond6 i = 1#1 ↔ (i 1).val = 4 := by
  unfold k0_cond6
  generalize (i 1 : Fin 6) = x; revert x; decide +kernel
/-- The work on query run 5 is done at the points of that run. -/
theorem hcond7 (i : grid0.Coords) : k0_cond7 i = 1#1 ↔ (i 1).val = 5 := by
  unfold k0_cond7
  generalize (i 1 : Fin 6) = x; revert x; decide +kernel

/-- The mask scratch after a point: built at the first point, kept at the others. -/
def maskUpd (i : grid0.Coords) (d : Vec F S32x128 .i32) : Vec F S32x128 .i32 :=
  if (i 0).val = 0 ∧ (i 1).val = 0 then k0_pay204 else d

/-- The query scratch, its stores given as a list of pieces. -/
theorem q_close (a : Memref sig .tc .vmem S8x640x128 .fp8e4m3) (f : BufTy.Contents (Elt F) a.view.ty)
    (raw x : Vec F S1x5120x128 .fp8e4m3) (hr : raw = x) (L) (hL : L = qPieces raw) :
    a.view.read (Elt F) (a.view.writes (Elt F) f L) = splitQ x := by
  subst hL hr; exact read_qPieces a f raw

/-- The key or value scratch, its stores given as a list of pieces. -/
theorem kv_close (a : Memref sig .tc .vmem S8x768x128 .fp8e4m3) (f : BufTy.Contents (Elt F) a.view.ty)
    (d : Vec F S8x768x128 .fp8e4m3) (hd : a.view.read (Elt F) f = d) (i : grid0.Coords)
    (raw x : Vec F S1x1024x128 .fp8e4m3) (hr : raw = x) (L) (hL : L = kvPieces i raw) :
    a.view.read (Elt F) (a.view.writes (Elt F) f L) = kvUpd (nOf i) x d := by
  subst hL hr hd; exact read_kvPieces a f i (nOf i) rfl raw

/-- The mask scratch, its one store given as a list of pieces. -/
theorem m_close (a : Memref sig .tc .vmem S32x128 .i32) (f : BufTy.Contents (Elt F) a.view.ty)
    (d : Vec F S32x128 .i32) (i : grid0.Coords) (hi : condM i) (L : List (View.Piece (Elt F) S32x128 .i32))
    (hL : L = [⟨Rect.unit (s := S32x128) ![0, 0] S32x128.size inb_S32x128_S32x128_0_0, k0_pay204⟩]) :
    a.view.read (Elt F) (a.view.writes (Elt F) f L) = maskUpd i d := by
  subst hL
  rw [maskUpd, if_pos ((hcondM i).mp hi)]
  funext y
  have y0 : (y 0).val < 32 := (y 0).isLt
  have y1 : (y 1).val < 128 := (y 1).isLt
  refine View.read_writes_apply_of_pieces a.view f k0_pay204 _ (fun p hp x => ?_) y ⟨_, List.mem_singleton.mpr rfl, ?_⟩
  · obtain rfl := List.mem_singleton.mp hp
    show k0_pay204 x = k0_pay204 _
    congr 1
    refine (Rect.emb_eq_of_coords _ _ _ fun k => ?_).symm
    fin_cases k <;> simp [Rect.unit]
  · rw [Rect.mem_set_unit]
    intro b
    fin_cases b
    · show 0 ≤ (y 0).val ∧ (y 0).val < 0 + 32
      omega
    · show 0 ≤ (y 1).val ∧ (y 1).val < 0 + 128
      omega

/-- The code scale, loaded. -/
theorem ps_load (a : Memref sig .tc .smem S1x1 .f32) (ha : a.IsWhole) (x : Vec F S1x1 .f32) (inb) (j) :
    a.view.readAt (Elt F) (Rect.unit (s := S1x1) ![0, 0] S1x1.size inb).toLoadRect (ha.unread x) j = x (ix2 0 0) := by
  show a.view.read (Elt F) (ha.unread x) _ = _
  rw [ha.read_unread]
  congr 1
  refine Rect.emb_eq_of_coords _ _ _ fun k => ?_
  have j0 : (j 0).val < 1 := (j 0).isLt
  have j1 : (j 1).val < 1 := (j 1).isLt
  fin_cases k <;> simp [Rect.unit, ix2] <;> omega

set_option maxHeartbeats 8000000 in
/-- THE BODY, WITH VALUES: from the keys, values and mask the scratch holds, one point adds its run of keys and values,
    and stores the attention of its run of queries. -/
theorem run_val (c : Dev nD) (i : grid0.Coords) (arg2 : Memref sig .tc .smem S1x1 .f32) (harg2 : arg2.IsWhole) (arg3 : Memref sig .tc .smem S6x2x40 .f32) (harg3 : arg3.IsWhole) (arg4 : Memref sig .tc .smem S6x2x8 .f32) (harg4 : arg4.IsWhole) (arg5 : Memref sig .tc .vmem S8x128 .f32) (harg5 : arg5.IsWhole) (arg6 : Memref sig .tc .vmem S1x5120x128 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x128x5120 .bf16) (harg9 : arg9.IsWhole) (arg10 : Memref sig .tc .vmem S8x640x128 .fp8e4m3) (harg10 : arg10.IsWhole) (arg11 : Memref sig .tc .vmem S8x768x128 .fp8e4m3) (harg11 : arg11.IsWhole) (arg12 : Memref sig .tc .vmem S8x768x128 .fp8e4m3) (harg12 : arg12.IsWhole) (arg13 : Memref sig .tc .vmem S32x128 .i32) (harg13 : arg13.IsWhole)
    (x0 : Vec F S1x1 .f32) (x1 : Vec F S6x2x40 .f32) (x2 : Vec F S6x2x8 .f32) (x3 : Vec F S8x128 .f32)
    (x4 : Vec F S1x5120x128 .fp8e4m3) (x5 : Vec F S1x1024x128 .fp8e4m3) (x6 : Vec F S1x1024x128 .fp8e4m3)
    (K0 V0 : Vec F S8x768x128 .fp8e4m3) (M0 : Vec F S32x128 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare K0 ∗ owns (c : Thread nD τ) arg12 fullShare V0 ∗ owns (c : Thread nD τ) arg13 fullShare M0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlk (splitQ x4) (kvUpd (nOf i) x5 K0) (kvUpd (nOf i) x6 V0) x1 x2 x3 (maskUpd i M0) (x0 (ix2 0 0)) (bOf i) (nOf i)) ∗ (∃ d, owns (c : Thread nD τ) arg10 fullShare d) ∗ owns (c : Thread nD τ) arg11 fullShare (kvUpd (nOf i) x5 K0) ∗ owns (c : Thread nD τ) arg12 fullShare (kvUpd (nOf i) x6 V0) ∗ owns (c : Thread nD τ) arg13 fullShare (maskUpd i M0)) -∗ K ⟨⟩))
      ⊢ wp frame (wpE (defs₀ (F := F)) Variants.none c none) E (cc0_sigmoid_attention i arg2 harg2 arg3 harg3 arg4 harg4 arg5 harg5 arg6 harg6 arg7 harg7 arg8 harg8 arg9 harg9 arg10 harg10 arg11 harg11 arg12 harg12 arg13 harg13) K := by
  have hi : (i 1).val = 0 ∨ (i 1).val = 1 ∨ (i 1).val = 2 ∨ (i 1).val = 3 ∨ (i 1).val = 4 ∨ (i 1).val = 5 := by
    have : (i 1).val < 6 := (i 1).isLt
    omega
  simp only [cc0_sigmoid_attention_eq_skeleton]; unfold cc0_sigmoid_attention_skel
  simp only [k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton,
    k0_part82_eq_skeleton, k0_part83_eq_skeleton, k0_part84_eq_skeleton, k0_part85_eq_skeleton, k0_part86_eq_skeleton,
    k0_part87_eq_skeleton, k0_part88_eq_skeleton, k0_part89_eq_skeleton, k0_part90_eq_skeleton, k0_part91_eq_skeleton,
    k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton,
    k0_part101_eq_skeleton, k0_part102_eq_skeleton, k0_part103_eq_skeleton, k0_part104_eq_skeleton,
    k0_part105_eq_skeleton, k0_part106_eq_skeleton, k0_part107_eq_skeleton, k0_part108_eq_skeleton,
    k0_part109_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg11.eq_unread hf11
  obtain rfl := harg12.eq_unread hf12
  obtain rfl := harg13.eq_unread hf13
  by_cases hm : condM i <;> rcases hi with h | h | h | h | h | h
  all_goals first
    | (exfalso; have := (hcondM i).mp hm; omega)
    | (sl_exec (disch := first
          | sl_exact hm
          | sl_exact (hcond2 i).mpr h | sl_exact fun e => absurd ((hcond2 i).mp e) (by omega)
          | sl_exact (hcond3 i).mpr h | sl_exact fun e => absurd ((hcond3 i).mp e) (by omega)
          | sl_exact (hcond4 i).mpr h | sl_exact fun e => absurd ((hcond4 i).mp e) (by omega)
          | sl_exact (hcond5 i).mpr h | sl_exact fun e => absurd ((hcond5 i).mp e) (by omega)
          | sl_exact (hcond6 i).mpr h | sl_exact fun e => absurd ((hcond6 i).mp e) (by omega)
          | sl_exact (hcond7 i).mpr h | sl_exact fun e => absurd ((hcond7 i).mp e) (by omega))
       sl_step
       iapply Hk
       isplitl [H2]; · iexists _; isplitr; · ipureintro; exact harg2.read_unread _
                       iexact H2
       isplitl [H3]; · iexists _; isplitr; · ipureintro; exact harg3.read_unread _
                       iexact H3
       isplitl [H4]; · iexists _; isplitr; · ipureintro; exact harg4.read_unread _
                       iexact H4
       isplitl [H5]; · iexists _; isplitr; · ipureintro; exact harg5.read_unread _
                       iexact H5
       isplitl [H6]; · iexists _; isplitr; · ipureintro; exact harg6.read_unread _
                       iexact H6
       isplitl [H7]; · iexists _; isplitr; · ipureintro; exact harg7.read_unread _
                       iexact H7
       isplitl [H8]; · iexists _; isplitr; · ipureintro; exact harg8.read_unread _
                       iexact H8
       isplitl [H9]; · iexists _; isplitr; swap; · iexact H9
                       ipureintro
                       first
                          | (have hn : nOf i = 0 := Fin.ext h
                             refine (loop1_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                          | (have hn : nOf i = 1 := Fin.ext h
                             refine (loop2_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                          | (have hn : nOf i = 2 := Fin.ext h
                             refine (loop3_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                          | (have hn : nOf i = 3 := Fin.ext h
                             refine (loop4_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                          | (have hn : nOf i = 4 := Fin.ext h
                             refine (loop5_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                          | (have hn : nOf i = 5 := Fin.ext h
                             refine (loop6_read (Q := splitQ x4) (K := kvUpd (nOf i) x5 K0) (V := kvUpd (nOf i) x6 V0) (M := maskUpd i M0)
                              (qsc := x1) (ksc := x2) (vsc := x3) (h3 := harg3.read_unread _) (h4 := harg4.read_unread _)
                              (h5 := harg5.read_unread _) (h10 := ?_) (h11 := ?_) (h12 := ?_) (h13 := ?_) ..).trans ?_)
                       · refine q_close arg10 _ _ x4 (load_whole3 arg6 harg6 x4 inb_S1x5120x128_S1x5120x128_0_0_0) _ ?_
                         sl_unfold_words
                         sl_kernel_rfl
                       · refine kv_close arg11 _ K0 (harg11.read_unread _) i _ x5 (load_whole3 arg7 harg7 x5 inb_S1x1024x128_S1x1024x128_0_0_0) _ ?_
                         sl_unfold_words
                         sl_kernel_rfl
                       · refine kv_close arg12 _ V0 (harg12.read_unread _) i _ x6 (load_whole3 arg8 harg8 x6 inb_S1x1024x128_S1x1024x128_0_0_0) _ ?_
                         sl_unfold_words
                         sl_kernel_rfl
                       · first
                           | (refine (harg13.read_unread _).trans ?_; rw [maskUpd, if_neg (fun e => hm ((hcondM i).mpr e))])
                           | (refine m_close arg13 _ M0 i hm _ ?_; sl_unfold_words; sl_kernel_rfl)
                       · sl_unfold_words
                         rw [hn, ps_load arg2 harg2 x0]
       isplitl [H10]; · iexists _, _; isplitr; swap; · iexact H10
                        ipureintro; rfl
       isplitl [H11]; · iexists _; isplitr; swap; · iexact H11
                        ipureintro
                        refine kv_close arg11 _ K0 (harg11.read_unread _) i _ x5 (load_whole3 arg7 harg7 x5 inb_S1x1024x128_S1x1024x128_0_0_0) _ ?_
                        sl_unfold_words
                        sl_kernel_rfl
       isplitl [H12]; · iexists _; isplitr; swap; · iexact H12
                        ipureintro
                        refine kv_close arg12 _ V0 (harg12.read_unread _) i _ x6 (load_whole3 arg8 harg8 x6 inb_S1x1024x128_S1x1024x128_0_0_0) _ ?_
                        sl_unfold_words
                        sl_kernel_rfl
       iexists _; isplitr; swap; · iexact H13
       ipureintro
       first
         | (refine (harg13.read_unread _).trans ?_; rw [maskUpd, if_neg (fun e => hm ((hcondM i).mpr e))])
         | (refine m_close arg13 _ M0 i hm _ ?_; sl_unfold_words; sl_kernel_rfl))

end Cert.KernelIdeal.Hand

end
-- ==== Proof.FrameVal.lean ====
module

public import proofs.«01_k».proof.Proof.Gen.KernelIdeal.Frame
public import proofs.«01_k».proof.Proof.RunVal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The memrefs the pipeline calls the body with -/

/-- The staging buffer of the weights' scale at a point. -/
abbrev ms0_0 (t : Fin cfg0.N) : Memref sig .tc .smem S1x1 .f32 := win0_0.stage (cfg0.slots t 0)
/-- The staging buffer of the queries' scales at a point. -/
abbrev ms0_1 (t : Fin cfg0.N) : Memref sig .tc .smem S6x2x40 .f32 := win0_1.stage (cfg0.slots t 1)
/-- The staging buffer of the keys' scales at a point. -/
abbrev ms0_2 (t : Fin cfg0.N) : Memref sig .tc .smem S6x2x8 .f32 := win0_2.stage (cfg0.slots t 2)
/-- The staging buffer of the values' scales at a point. -/
abbrev ms0_3 (t : Fin cfg0.N) : Memref sig .tc .vmem S8x128 .f32 := win0_3.stage (cfg0.slots t 3)
/-- The staging buffer of the queries at a point. -/
abbrev ms0_4 (t : Fin cfg0.N) : Memref sig .tc .vmem S1x5120x128 .fp8e4m3 := win0_4.stage (cfg0.slots t 4)
/-- The staging buffer of the keys at a point. -/
abbrev ms0_5 (t : Fin cfg0.N) : Memref sig .tc .vmem S1x1024x128 .fp8e4m3 := win0_5.stage (cfg0.slots t 5)
/-- The staging buffer of the values at a point. -/
abbrev ms0_6 (t : Fin cfg0.N) : Memref sig .tc .vmem S1x1024x128 .fp8e4m3 := win0_6.stage (cfg0.slots t 6)
/-- The staging buffer of the result at a point. -/
abbrev ms0_7 (t : Fin cfg0.N) : Memref sig .tc .vmem S1x128x5120 .bf16 := win0_7.stage (cfg0.slots t 7)
/-- The queries' scratch. -/
abbrev scM0_0 : Memref sig .tc .vmem S8x640x128 .fp8e4m3 := Memref.whole cc0_scratch0
/-- The keys' scratch. -/
abbrev scM0_1 : Memref sig .tc .vmem S8x768x128 .fp8e4m3 := Memref.whole cc0_scratch1
/-- The values' scratch. -/
abbrev scM0_2 : Memref sig .tc .vmem S8x768x128 .fp8e4m3 := Memref.whole cc0_scratch2
/-- The mask's scratch. -/
abbrev scM0_3 : Memref sig .tc .vmem S32x128 .i32 := Memref.whole cc0_scratch3
/-- The window of the weights' scale is in use at every point. -/
theorem liveAt0_0 : ∀ t : Fin cfg0.N, cfg0.idle 0 (grid0.coords t) = false := fun _ => rfl
/-- The window of the queries' scales is in use at every point. -/
theorem liveAt0_1 : ∀ t : Fin cfg0.N, cfg0.idle 1 (grid0.coords t) = false := fun _ => rfl
/-- The window of the keys' scales is in use at every point. -/
theorem liveAt0_2 : ∀ t : Fin cfg0.N, cfg0.idle 2 (grid0.coords t) = false := fun _ => rfl
/-- The window of the values' scales is in use at every point. -/
theorem liveAt0_3 : ∀ t : Fin cfg0.N, cfg0.idle 3 (grid0.coords t) = false := fun _ => rfl
/-- The window of the queries is in use at every point. -/
theorem liveAt0_4 : ∀ t : Fin cfg0.N, cfg0.idle 4 (grid0.coords t) = false := fun _ => rfl
/-- The window of the keys is in use at every point. -/
theorem liveAt0_5 : ∀ t : Fin cfg0.N, cfg0.idle 5 (grid0.coords t) = false := fun _ => rfl
/-- The window of the values is in use at every point. -/
theorem liveAt0_6 : ∀ t : Fin cfg0.N, cfg0.idle 6 (grid0.coords t) = false := fun _ => rfl

/-- The region's invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the scratch carries from point to point -/

/-- The rows of one run a block depends on: keys up to the run `n` itself. -/
theorem blk1_congr (K K' : Vec F S8x768x128 .fp8e4m3) (n p : Fin 6) (hp : p.val ≤ n.val)
    (h : ∀ y : S8x768x128.Idx, (y 1).val / 128 ≤ n.val → K y = K' y) (g : Fin 8) : blk1 K g p = blk1 K' g p := by
  funext y
  refine h _ ?_
  have h1 : (y 1).val < 128 := (y 1).isLt
  show (128 * p.val + (y 1).val) / 128 ≤ n.val
  omega

/-- A point's work on two whole runs reads only the rows of those runs. -/
theorem blk2_congr (K K' : Vec F S8x768x128 .fp8e4m3) (n : Fin 6) (j : Fin 3) (hp : 2 * j.val + 1 ≤ n.val)
    (h : ∀ y : S8x768x128.Idx, (y 1).val / 128 ≤ n.val → K y = K' y) (g : Fin 8) : blk2 K g j = blk2 K' g j := by
  funext y
  refine h _ ?_
  have h1 : (y 1).val < 256 := (y 1).isLt
  show (256 * j.val + (y 1).val) / 128 ≤ n.val
  omega

/-- The output of run `n` reads the keys and values of runs `0 … n` only. -/
theorem outBlk_congr (Q : Vec F S8x640x128 .fp8e4m3) (K K' W W' : Vec F S8x768x128 .fp8e4m3) (qsc ksc vsc)
    (M : Vec F S32x128 .i32) (ps : F .f32) (b : Fin 2) (n : Fin 6)
    (hK : ∀ y : S8x768x128.Idx, (y 1).val / 128 ≤ n.val → K y = K' y)
    (hW : ∀ y : S8x768x128.Idx, (y 1).val / 128 ≤ n.val → W y = W' y) :
    outBlk Q K W qsc ksc vsc M ps b n = outBlk Q K' W' qsc ksc vsc M ps b n := by
  have h : ∀ g, acc Q K W qsc ksc M (k0_pay1 ps) b g n = acc Q K' W' qsc ksc M (k0_pay1 ps) b g n := by
    intro g
    have h1 := fun p hp => blk1_congr K K' n p hp hK g
    have h2 := fun j hj => blk2_congr K K' n j hj hK g
    have w1 := fun p hp => blk1_congr W W' n p hp hW g
    have w2 := fun j hj => blk2_congr W W' n j hj hW g
    clear hK hW
    fin_cases n
    · simp only [acc, one, h1 0 (by decide), w1 0 (by decide)]
    · simp only [acc, two, h2 0 (by decide), w2 0 (by decide)]
    · simp only [acc, one, two, h2 0 (by decide), w2 0 (by decide), h1 2 (by decide), w1 2 (by decide)]
    · simp only [acc, two, h2 0 (by decide), w2 0 (by decide), h2 1 (by decide), w2 1 (by decide)]
    · simp only [acc, one, two, h2 0 (by decide), w2 0 (by decide), h2 1 (by decide), w2 1 (by decide), h1 4 (by decide), w1 4 (by decide)]
    · simp only [acc, two, h2 0 (by decide), w2 0 (by decide), h2 1 (by decide), w2 1 (by decide), h2 2 (by decide), w2 2 (by decide)]
  funext y
  unfold outBlk
  rw [h]

/-- The batch of a point. -/
theorem coords0 : ∀ t : Fin cfg0.N, (grid0.coords t 0).val = t.val / 6 := by decide +kernel
/-- The run of queries of a point. -/
theorem coords1 : ∀ t : Fin cfg0.N, (grid0.coords t 1).val = t.val % 6 := by decide +kernel

/-- All six runs of the keys or values of batch entry `b`, split by heads. -/
def kvAll (x : Fin cfg0.N → Vec F S1x1024x128 .fp8e4m3) (b : Fin 2) : Vec F S8x768x128 .fp8e4m3 := fun y =>
  x (Fin.cast N_0.symm ⟨6 * b.val + (y 1).val / 128, by
      have h1 : (y 1).val < 768 := (y 1).isLt
      omega⟩)
    (ix3 0 ⟨(y 1).val % 128 * 8 + (y 0).val, by
      have h0 : (y 0).val < 8 := (y 0).isLt
      show _ < 1024
      omega⟩ (y 2))

/-- After point `t` the scratch holds runs `0 … t % 6` of batch entry `t / 6`, and the mask. -/
def Kept (x5 x6 : Fin cfg0.N → Vec F S1x1024x128 .fp8e4m3) (s : ℕ) (K W : Vec F S8x768x128 .fp8e4m3)
    (M : Vec F S32x128 .i32) : Prop :=
  ∀ t : Fin cfg0.N, s = t.val + 1 → M = k0_pay204 ∧ ∀ y : S8x768x128.Idx, (y 1).val / 128 ≤ (nOf (grid0.coords t)).val →
    K y = kvAll x5 (bOf (grid0.coords t)) y ∧ W y = kvAll x6 (bOf (grid0.coords t)) y

/-- Writing a point's rows into scratch that holds the earlier points' rows keeps the description of the scratch. -/
theorem upd_all (x : Fin cfg0.N → Vec F S1x1024x128 .fp8e4m3) (t : Fin cfg0.N) (K : Vec F S8x768x128 .fp8e4m3)
    (hK : ∀ u : Fin cfg0.N, t.val = u.val + 1 → ∀ y : S8x768x128.Idx, (y 1).val / 128 ≤ (nOf (grid0.coords u)).val →
      K y = kvAll x (bOf (grid0.coords u)) y) (y : S8x768x128.Idx) (hy : (y 1).val / 128 ≤ (nOf (grid0.coords t)).val) :
    kvUpd (nOf (grid0.coords t)) (x t) K y = kvAll x (bOf (grid0.coords t)) y := by
  have e0 : (bOf (grid0.coords t)).val = t.val / 6 := coords0 t
  have e1 : (nOf (grid0.coords t)).val = t.val % 6 := coords1 t
  have hN : t.val < 12 := t.isLt.trans_eq N_0
  unfold kvUpd
  split
  · rename_i h
    unfold kvAll
    have : (Fin.cast N_0.symm ⟨6 * (bOf (grid0.coords t)).val + (y 1).val / 128, by
      have h1 : (y 1).val < 768 := (y 1).isLt
      omega⟩ : Fin cfg0.N) = t := Fin.ext (by show 6 * (bOf (grid0.coords t)).val + (y 1).val / 128 = t.val; omega)
    rw [this]
  · rename_i h
    have hu : t.val - 1 < cfg0.N := by omega
    have f0 : (bOf (grid0.coords ⟨t.val - 1, hu⟩)).val = (t.val - 1) / 6 := coords0 ⟨t.val - 1, hu⟩
    have f1 : (nOf (grid0.coords ⟨t.val - 1, hu⟩)).val = (t.val - 1) % 6 := coords1 ⟨t.val - 1, hu⟩
    have hb : bOf (grid0.coords ⟨t.val - 1, hu⟩) = bOf (grid0.coords t) := Fin.ext (by omega)
    rw [← hb]
    exact hK ⟨t.val - 1, hu⟩ (by show t.val = t.val - 1 + 1; omega) y (by omega)

/-- One point keeps it. -/
theorem Kept.step {x5 x6 : Fin cfg0.N → Vec F S1x1024x128 .fp8e4m3} (t : Fin cfg0.N) {K W : Vec F S8x768x128 .fp8e4m3}
    {M : Vec F S32x128 .i32} (h : Kept x5 x6 t.val K W M) :
    Kept x5 x6 (t.val + 1) (kvUpd (nOf (grid0.coords t)) (x5 t) K) (kvUpd (nOf (grid0.coords t)) (x6 t) W)
      (maskUpd (grid0.coords t) M) := by
  intro u hu
  obtain rfl : u = t := Fin.ext (by omega)
  refine ⟨?_, fun y hy => ⟨upd_all x5 u K (fun v hv y hy => ((h v hv).2 y hy).1) y hy,
    upd_all x6 u W (fun v hv y hy => ((h v hv).2 y hy).2) y hy⟩⟩
  unfold maskUpd
  split
  · rfl
  · rename_i hn
    have e0 := coords0 u
    have e1 := coords1 u
    have hN : u.val < 12 := u.isLt.trans_eq N_0
    have hv : u.val - 1 < cfg0.N := by omega
    exact (h ⟨u.val - 1, hv⟩ (by show u.val = u.val - 1 + 1; omega)).1

/-- What point `t` leaves in the output window. -/
def outAt (c : Dev nD) (t : Fin cfg0.N) : Vec F S1x128x5120 .bf16 :=
  outBlk (splitQ (iblk m c 4 t)) (kvAll (fun t => iblk m c 5 t) (bOf (grid0.coords t))) (kvAll (fun t => iblk m c 6 t) (bOf (grid0.coords t)))
    (iblk m c 1 t) (iblk m c 2 t) (iblk m c 3 t) k0_pay204 ((iblk m c 0 t : Vec F S1x1 .f32) (ix2 0 0)) (bOf (grid0.coords t)) (nOf (grid0.coords t))

/-- A point's output depends on the scratch only through the rows it has been given so far and the mask. -/
theorem outAt_of (c : Dev nD) (t : Fin cfg0.N) {K W : Vec F S8x768x128 .fp8e4m3} {M : Vec F S32x128 .i32}
    (h : Kept (fun t => iblk m c 5 t) (fun t => iblk m c 6 t) (t.val + 1) K W M) :
    outBlk (splitQ (iblk m c 4 t)) K W (iblk m c 1 t) (iblk m c 2 t) (iblk m c 3 t) M ((iblk m c 0 t : Vec F S1x1 .f32) (ix2 0 0))
      (bOf (grid0.coords t)) (nOf (grid0.coords t)) = outAt m c t := by
  obtain ⟨hM, hy⟩ := h t rfl
  subst hM
  exact outBlk_congr _ _ _ _ _ _ _ _ _ _ _ _ (fun y h => (hy y h).1) (fun y h => (hy y h).2)

/-- The invariant between points. -/
def PhiK (c : Dev nD) (s : ℕ) : sProp 𝕄 :=
  iprop(iprop((∃ d, owns (c : Thread nD τ) scM0_0 fullShare d) ∗ (∃ K W M, ⌜Kept (fun t => iblk m c 5 t) (fun t => iblk m c 6 t) s K W M⌝ ∗ owns (c : Thread nD τ) scM0_1 fullShare K ∗ owns (c : Thread nD τ) scM0_2 fullShare W ∗ owns (c : Thread nD τ) scM0_3 fullShare M)) ∗ (∃ r, prngReg c r))

/-- The proof data: the arrays as the region finds them, each input's buffer at its block after the body, the output's at `outAt`,
    the scratch as `PhiK` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ s := PhiK m c s.val
  q _ := fullShare
  owed _ := 0

/-- The array a window stages is the one the host code left in its operand. -/
theorem A_eq (c : Dev nD) (w : Fin cfg0.W) : (dats m 0 c).A w = V m c (Pipeline.arrRef spec0 w) := by
  dsimp only [dats]

/-- After a point the window of the weights' scale holds its fetched block. -/
theorem after0_0 (c : Dev nD) (t : Fin cfg0.N) : (dats m 0 c).after 0 t = iblk m c 0 t := by dsimp only [dats]
/-- After a point the window of the queries' scales holds its fetched block. -/
theorem after0_1 (c : Dev nD) (t : Fin cfg0.N) : (dats m 0 c).after 1 t = iblk m c 1 t := by dsimp only [dats]
/-- After a point the window of the keys' scales holds its fetched block. -/
theorem after0_2 (c : Dev nD) (t : Fin cfg0.N) : (dats m 0 c).after 2 t = iblk m c 2 t := by dsimp only [dats]
/-- After a point the window of the values' scales holds its fetched block. -/
theorem after0_3 (c : Dev nD) (t : Fin cfg0.N) : (dats m 0 c).after 3 t = iblk m c 3 t := by dsimp only [dats]
/-- After a point the window of the queries holds its fetched block. -/
theorem after0_4 (c : Dev nD) (t : Fin cfg0.N) : (dats m 0 c).after 4 t = iblk m c 4 t := by dsimp only [dats]
/-- After a point the window of the keys holds its fetched block. -/
theorem after0_5 (c : Dev nD) (t : Fin cfg0.N) : (dats m 0 c).after 5 t = iblk m c 5 t := by dsimp only [dats]
/-- After a point the window of the values holds its fetched block. -/
theorem after0_6 (c : Dev nD) (t : Fin cfg0.N) : (dats m 0 c).after 6 t = iblk m c 6 t := by dsimp only [dats]
/-- After a point the window of the result holds that point's output. -/
theorem after0_7 (c : Dev nD) (t : Fin cfg0.N) : (dats m 0 c).after 7 t = outAt m c t := by dsimp only [dats]
/-- Before a point the window of the weights' scale holds its fetched block. -/
theorem before0_0 (c : Dev nD) (t : Fin cfg0.N) (d) : (dats m 0 c).before 0 t d = iblk m c 0 t :=
  before0_0_of m (dats m 0 c) (A_eq m c 0) (after0_0 m c) t d
/-- Before a point the window of the queries' scales holds its fetched block. -/
theorem before0_1 (c : Dev nD) (t : Fin cfg0.N) (d) : (dats m 0 c).before 1 t d = iblk m c 1 t :=
  before0_1_of m (dats m 0 c) (A_eq m c 1) (after0_1 m c) t d
/-- Before a point the window of the keys' scales holds its fetched block. -/
theorem before0_2 (c : Dev nD) (t : Fin cfg0.N) (d) : (dats m 0 c).before 2 t d = iblk m c 2 t :=
  before0_2_of m (dats m 0 c) (A_eq m c 2) (after0_2 m c) t d
/-- Before a point the window of the values' scales holds its fetched block. -/
theorem before0_3 (c : Dev nD) (t : Fin cfg0.N) (d) : (dats m 0 c).before 3 t d = iblk m c 3 t :=
  before0_3_of m (dats m 0 c) (A_eq m c 3) (after0_3 m c) t d
/-- Before a point the window of the queries holds its fetched block. -/
theorem before0_4 (c : Dev nD) (t : Fin cfg0.N) (d) : (dats m 0 c).before 4 t d = iblk m c 4 t :=
  before0_4_of m (dats m 0 c) (A_eq m c 4) (after0_4 m c) t d
/-- Before a point the window of the keys holds its fetched block. -/
theorem before0_5 (c : Dev nD) (t : Fin cfg0.N) (d) : (dats m 0 c).before 5 t d = iblk m c 5 t :=
  before0_5_of m (dats m 0 c) (A_eq m c 5) (after0_5 m c) t d
/-- Before a point the window of the values holds its fetched block. -/
theorem before0_6 (c : Dev nD) (t : Fin cfg0.N) (d) : (dats m 0 c).before 6 t d = iblk m c 6 t :=
  before0_6_of m (dats m 0 c) (A_eq m c 6) (after0_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiK m c (t.val + 1) from rfl, show (dats m 0 c).Φ t.castSucc = PhiK m c t.val from rfl]
  unfold PhiK
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  rw [show (dats m 0 c).leavesExact 7 t = owns (c : Thread nD τ) (ms0_7 t) fullShare (outAt m c t) from by
    unfold Dat.leavesExact; rw [flush0_7 t, after0_7]; cases cfg0.idle 7 (cfg0.grid.coords t) <;> rfl]
  iintro ⟨⟨⟨S0, ⟨%K, %W, %M, %hk, S1, S2, S3⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hk' := hk.step t
  rw [← outAt_of m c t hk']
  iapply (run_val c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) K W M Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexact S0
      iexists _, _, _
      isplitr; · ipureintro; exact hk'
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiK m c 0 from rfl, PhiA0_eq]
  unfold PhiK
  iintro ⟨⟨S0, ⟨%K, S1⟩, ⟨%W, S2⟩, ⟨%M, S3⟩⟩, Hg⟩
  isplitl [S0 S1 S2 S3]
  · isplitl [S0]; · iexact S0
    iexists K, W, M
    isplitr; · ipureintro; exact fun t ht => absurd ht (Nat.succ_ne_zero _).symm
    isplitl [S1]; · iexact S1
    isplitl [S2]; · iexact S2
    iexact S3
  iexact Hg

/-- The invariant after the last point gives the region's back. -/
theorem hout (c : Dev nD) : (dats m 0 c).Φ (Fin.last cfg0.N) ⊢ Pipeline.ΦA spec0 c := by
  rw [show (dats m 0 c).Φ (Fin.last cfg0.N) = PhiK m c cfg0.N from rfl, PhiA0_eq]
  unfold PhiK
  iintro ⟨⟨S0, ⟨%K, %W, %M, -, S1, S2, S3⟩⟩, Hg⟩
  isplitl [S0 S1 S2 S3]
  · isplitl [S0]; · iexact S0
    isplitl [S1]; · iexists _; iexact S1
    isplitl [S2]; · iexists _; iexact S2
    iexists _; iexact S3
  iexact Hg

set_option backward.isDefEq.respectTransparency.types false in
/-- THE LAUNCH: every execution terminates, every array of the pipeline ends at what the proof data says and every
    semaphore counter is zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE RUN: the output array ends as the points wrote it, the arguments are unchanged and every semaphore counter is
    zero. -/
theorem run_blocks : θ_run defs (onTc (τ := τ) (main (F := F))) ⟨m, fun _ => 0, ρ⟩ (fun r => (∀ c : Dev nD,
      r.2.mem ((c.tc : Thread nD τ).loc main_v6) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 7,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 3).trans (((dats m 0 c).arrAt_in 3 rfl _).trans ((A_eq m c 3).trans (V_main_arg5 m c))),
      ((h.1 c).2 main_arg6 (Pipeline.mem_restRefs_of main_arg6 (by decide) (by decide))).trans (V_main_arg6 m c)⟩, h.2⟩) (run_main m ρ)

/-- THE FRAME: the arguments are unchanged and every semaphore counter is zero. -/
theorem frame : θ_run defs (onTc (τ := τ) (main (F := F))) ⟨m, fun _ => 0, ρ⟩ (fun r => (∀ c : Dev nD,
         r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_blocks m ρ)

end Cert.KernelIdeal.Hand

end
-- ==== Proof.Weight.lean ====
module

public import proofs.«01_k».proof.Proof.Attend

public import Idealize.ShloMosaic.Lib.Pointwise
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The mask -/

/-- Signed comparison of two small words is the comparison of the numbers. -/
theorem sle_small : ∀ (a : Fin 32) (t : Fin 4) (c : Fin 128),
    IntOp.cmpi CmpIPredicate.sle (BitVec.ofNat 32 c.val) (IntOp.addi (IntOp.muli (BitVec.ofNat 32 a.val) 4#32) (BitVec.ofNat 32 t.val))
      = BitVec.ofBool (decide (c.val ≤ 4 * a.val + t.val)) := by decide +kernel

/-- The bits of four bytes each all ones or zero. -/
theorem four_bits : ∀ (p0 p1 p2 p3 : Bool) (t : Fin 4) (q : Fin 8),
    (IntOp.ori (IntOp.ori (IntOp.ori (IntOp.ori (0#32) (Scalar.select (BitVec.ofBool p0) 255#32 0#32))
      (Scalar.select (BitVec.ofBool p1) 65280#32 0#32)) (Scalar.select (BitVec.ofBool p2) 16711680#32 0#32))
      (Scalar.select (BitVec.ofBool p3) 4278190080#32 0#32)).getLsbD (8 * t.val + q.val)
      = (match t with | 0 => p0 | 1 => p1 | 2 => p2 | 3 => p3) := by decide +kernel

/-- Bit by bit: the word at `(a, c)` has byte `t` all ones exactly when `c ≤ 4 a + t`. -/
theorem pay204_bit (a : Fin 32) (c : Fin 128) (t : Fin 4) (q : Fin 8) :
    (k0_pay204 (ix2 a c)).getLsbD (8 * t.val + q.val) = decide (c.val ≤ 4 * a.val + t.val) := by
  pointwise [k0_pay204]
  have h0 := sle_small a 0 c; have h1 := sle_small a 1 c; have h2 := sle_small a 2 c; have h3 := sle_small a 3 c
  simp only [Fin.val_zero, Fin.val_one, Fin.val_two, show ((3 : Fin 4).val) = 3 from rfl] at h0 h1 h2 h3
  rw [h0, h1, h2, h3, four_bits]
  fin_cases t <;> rfl

/-- The mask's byte at row `r`, column `c`: all ones on and below the diagonal, zero above it. -/
theorem mask_byte (r c : Fin 128) :
    bitcast S128x128 8 k0_pay204 bitcasts_S32x128_w32_S128x128_w8 (ix2 r c) = if c.val ≤ r.val then 255#8 else 0#8 := by
  apply BitVec.eq_of_getLsbD_eq
  intro q hq
  rw [bitcast_getLsbD k0_pay204 _ _ q hq (by decide)]
  have hr : S128x128.row (ix2 r c) = r.val := rfl
  have hi : ∀ p hp, p = r.val / 4 → bitcasts_S32x128_w32_S128x128_w8.srcIdx (ix2 r c) p hp = (ix2 ⟨r.val / 4, by omega⟩ c : S32x128.Idx) := by
    intro p hp e
    funext a
    match a with
    | ⟨0, _⟩ => exact Fin.ext ((Shape.Bitcasts.srcIdx_row _ _ _ _ ⟨0, Nat.zero_lt_two⟩ rfl).trans e)
    | ⟨1, _⟩ => exact Fin.ext (Shape.Bitcasts.srcIdx_other _ _ _ _ ⟨1, Nat.one_lt_two⟩ (by decide))
  rw [hi _ _ (by rw [hr]; omega), hr, show (r.val * 8 + q) % 32 = 8 * (r.val % 4) + q from by omega,
    pay204_bit ⟨r.val / 4, by omega⟩ c ⟨r.val % 4, by omega⟩ ⟨q, hq⟩]
  have e : 4 * (r.val / 4) + r.val % 4 = r.val := by omega
  simp only [e]
  split
  · rename_i h; simp only [h, decide_true]; interval_cases q <;> rfl
  · rename_i h; simp only [h, decide_false]; interval_cases q <;> rfl

/-- A masked value is kept on and below the diagonal, and zero above it. -/
theorem maskOf_at (x : FVec Ideal S128x128 .fp8e4m3) (r c : Fin 128) :
    maskOf k0_pay204 x (ix2 r c) = if c.val ≤ r.val then x (ix2 r c) else 0 := by
  pointwise [maskOf]
  rw [mask_byte]
  split
  · rfl
  · show Ideal.ofBits FTy.fp8e4m3 0#8 = 0
    exact Ideal.ofBits_zero .fp8e4m3

/-! ## The weights -/

/-- One attention code: the sigmoid of the scaled score, over the scale of the codes, cut to the range of the codes. -/
def weight (s a inv : EReal) : EReal :=
  min (Ideal.ofBits FTy.f32 1138753536#32) (max 0 (Ideal.logistic (s * a + Ideal.ofBits FTy.f32 3235158509#32) * inv))

/-- One code, not masked: the weight of its score. -/
theorem codeOf_at (s : FVec Ideal S128x128 .f32) (a inv : Ideal .f32) (r c : Fin 128) :
    codeOf s a inv (ix2 r c) = weight (s (ix2 r c)) a inv := by
  pointwise [codeOf, weight]

/-- Five blocks of 128 rows under each other. -/
theorem rows1_at {t : FTy} (row : Fin 5 → FVec Ideal S128x128 t) (i : Fin 640) (c : Fin 128) :
    concatenate S640x128 0 [⟨S128x128, row 0⟩, ⟨S128x128, row 1⟩, ⟨S128x128, row 2⟩, ⟨S128x128, row 3⟩, ⟨S128x128, row 4⟩]
      concatenates_S128x128_S128x128_S128x128_S128x128_S128x128_S640x128_d0 (ix2 i c)
      = row ⟨i.val / 128, by omega⟩ (ix2 ⟨i.val % 128, by omega⟩ c) := by
  pointwise
  have hi := i.isLt
  split_ifs <;> first
    | exact congrArg₂ (fun h r => row h (ix2 r c)) (Fin.ext (by show 0 = i.val / 128; omega)) (Fin.ext (by show i.val = i.val % 128; omega))
    | exact congrArg₂ (fun h r => row h (ix2 r c)) (Fin.ext (by show 1 = i.val / 128; omega)) (Fin.ext (by show i.val - 128 = i.val % 128; omega))
    | exact congrArg₂ (fun h r => row h (ix2 r c)) (Fin.ext (by show 2 = i.val / 128; omega)) (Fin.ext (by show i.val - 128 - 128 = i.val % 128; omega))
    | exact congrArg₂ (fun h r => row h (ix2 r c)) (Fin.ext (by show 3 = i.val / 128; omega)) (Fin.ext (by show i.val - 128 - 128 - 128 = i.val % 128; omega))
    | exact congrArg₂ (fun h r => row h (ix2 r c)) (Fin.ext (by show 4 = i.val / 128; omega)) (Fin.ext (by show i.val - 128 - 128 - 128 - 128 = i.val % 128; omega))
/-- An entry of the five heads' two-run codes set one above the other. -/
theorem rows2_at {t : FTy} (row : Fin 5 → FVec Ideal S128x256 t) (i : Fin 640) (c : Fin 256) :
    concatenate S640x256 0 [⟨S128x256, row 0⟩, ⟨S128x256, row 1⟩, ⟨S128x256, row 2⟩, ⟨S128x256, row 3⟩, ⟨S128x256, row 4⟩]
      concatenates_S128x256_S128x256_S128x256_S128x256_S128x256_S640x256_d0 (ix2 i c)
      = row ⟨i.val / 128, by omega⟩ (ix2 ⟨i.val % 128, by omega⟩ c) := by
  pointwise
  have hi := i.isLt
  split_ifs <;> first
    | exact congrArg₂ (fun h r => row h (ix2 r c)) (Fin.ext (by show 0 = i.val / 128; omega)) (Fin.ext (by show i.val = i.val % 128; omega))
    | exact congrArg₂ (fun h r => row h (ix2 r c)) (Fin.ext (by show 1 = i.val / 128; omega)) (Fin.ext (by show i.val - 128 = i.val % 128; omega))
    | exact congrArg₂ (fun h r => row h (ix2 r c)) (Fin.ext (by show 2 = i.val / 128; omega)) (Fin.ext (by show i.val - 128 - 128 = i.val % 128; omega))
    | exact congrArg₂ (fun h r => row h (ix2 r c)) (Fin.ext (by show 3 = i.val / 128; omega)) (Fin.ext (by show i.val - 128 - 128 - 128 = i.val % 128; omega))
    | exact congrArg₂ (fun h r => row h (ix2 r c)) (Fin.ext (by show 4 = i.val / 128; omega)) (Fin.ext (by show i.val - 128 - 128 - 128 - 128 = i.val % 128; omega))
end Cert.KernelIdeal.Hand
-- ==== Proof.Chunks.lean ====
module

public import proofs.«01_k».proof.Proof.Weight
public import proofs.«01_k».proof.Proof.Blocks

public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Products and slices, read at an index -/

/-- One entry of weights times values over one run of keys: a sum over the run. -/
theorem pv1_at (R : FVec Ideal S640x128 .fp8e4m3) (v : Vec Ideal S1x128x128 .fp8e4m3) (i : Fin 640) (d : Fin 128) :
    matmul dot_S640x128_S128x128_S640x128_1_0_0_1_n_n none R (shapeCast S128x128 v shapeCasts_S1x128x128_S128x128 : FVec Ideal S128x128 .fp8e4m3)
      (constant S640x128 .f32 0x00000000#32) (ix2 i d) = ∑ t : Fin 128, R (ix2 i t) * v (ix3 0 t d) := by
  pointwise

/-- One entry of weights times values over two runs of keys: a sum over both. -/
theorem pv2_at (R : FVec Ideal S640x256 .fp8e4m3) (v : Vec Ideal S1x256x128 .fp8e4m3) (i : Fin 640) (d : Fin 128) :
    matmul dot_S640x256_S256x128_S640x128_1_0_0_1_n_n none R (shapeCast S256x128 v shapeCasts_S1x256x128_S256x128 : FVec Ideal S256x128 .fp8e4m3)
      (constant S640x128 .f32 0x00000000#32) (ix2 i d) = ∑ t : Fin 256, R (ix2 i t) * v (ix3 0 t d) := by
  pointwise

/-- One entry of queries times keys over one run: a sum over the head's coordinates. -/
theorem qk1_at (q : Vec Ideal S1x640x128 .fp8e4m3) (k : Vec Ideal S1x128x128 .fp8e4m3) (i : Fin 640) (t : Fin 128) :
    (matmul dot_S640x128_S128x128_S640x128_1_1_0_0_n_n none
      (shapeCast S640x128 q shapeCasts_S1x640x128_S640x128 : FVec Ideal S640x128 .fp8e4m3) (shapeCast S128x128 k shapeCasts_S1x128x128_S128x128 : FVec Ideal S128x128 .fp8e4m3)
      (constant S640x128 .f32 0x00000000#32) : FVec Ideal S640x128 .f32) (ix2 i t) = ∑ e : Fin 128, q (ix3 0 i e) * k (ix3 0 t e) := by
  pointwise

/-- One entry of queries times keys over two runs: a sum over the head's coordinates. -/
theorem qk2_at (q : Vec Ideal S1x640x128 .fp8e4m3) (k : Vec Ideal S1x256x128 .fp8e4m3) (i : Fin 640) (t : Fin 256) :
    (matmul dot_S640x128_S256x128_S640x256_1_1_0_0_n_n none
      (shapeCast S640x128 q shapeCasts_S1x640x128_S640x128 : FVec Ideal S640x128 .fp8e4m3) (shapeCast S256x128 k shapeCasts_S1x256x128_S256x128 : FVec Ideal S256x128 .fp8e4m3)
      (constant S640x256 .f32 0x00000000#32) : FVec Ideal S640x256 .f32) (ix2 i t) = ∑ e : Fin 128, q (ix3 0 i e) * k (ix3 0 t e) := by
  pointwise

/-- An entry of one head's piece of a one-run score block. -/
theorem slice1_at (s : FVec Ideal S640x128 .f32) (h : Fin 5) (r c : Fin 128) :
    extractStridedSlice S128x128 ![128 * h.val, 0] s (slicesOne h) (ix2 r c) = s (ix2 ⟨128 * h.val + r.val, by omega⟩ c) := by
  unfold extractStridedSlice
  congr 1
  funext a
  match a with
  | ⟨0, _⟩ => rfl
  | ⟨1, _⟩ => exact Fin.ext (Nat.zero_add _)

/-- An entry of one head's piece, for either run, of a two-run score block. -/
theorem slice2_at (s : FVec Ideal S640x256 .f32) (h : Fin 5) (n : Fin 2) (r c : Fin 128) :
    extractStridedSlice S128x128 ![128 * h.val, 128 * n.val] s (slicesTwo h n) (ix2 r c)
      = s (ix2 ⟨128 * h.val + r.val, by omega⟩ ⟨128 * n.val + c.val, by omega⟩) := by
  unfold extractStridedSlice
  congr 1
  funext a
  match a with
  | ⟨0, _⟩ => rfl
  | ⟨1, _⟩ => rfl

/-- An entry of two runs' codes set side by side. -/
theorem cols2_at {t : FTy} (x y : FVec Ideal S128x128 t) (r : Fin 128) (c : Fin 256) :
    concatenate S128x256 1 [⟨S128x128, x⟩, ⟨S128x128, y⟩] concatenates_S128x128_S128x128_S128x256_d1 (ix2 r c)
      = if h : c.val < 128 then x (ix2 r ⟨c.val, h⟩) else y (ix2 r ⟨c.val - 128, by omega⟩) := by
  pointwise

/-- The factor of a score: the two scales and one over the square root of the head's size. -/
theorem scl_eq (a b : EReal) : scl (F := Ideal) a b = a * b * Ideal.ofBits .f32 0x3DB504F3#32 := rfl

/-- What one chunk of 128 keys, cut at the diagonal, adds to a row: the codes of the row times the values. -/
theorem oneChunk_at (q : Vec Ideal S1x640x128 .fp8e4m3) (k v : Vec Ideal S1x128x128 .fp8e4m3) (qa : Fin 5 → EReal)
    (ka inv : EReal) (i : Fin 640) (d : Fin 128) :
    oneChunk (F := Ideal) q k v qa ka inv k0_pay204 (ix2 i d) = ∑ t : Fin 128,
      (if t.val ≤ i.val % 128 then
        weight (∑ e : Fin 128, q (ix3 0 i e) * k (ix3 0 t e)) (scl (F := Ideal) (qa ⟨i.val / 128, by omega⟩) ka) inv
      else 0) * v (ix3 0 t d) := by
  have key := fun t => rows1_at (fun h => maskOf k0_pay204 (codeOf (extractStridedSlice S128x128 ![128 * h.val, 0]
    (matmul dot_S640x128_S128x128_S640x128_1_1_0_0_n_n none
      (shapeCast S640x128 q shapeCasts_S1x640x128_S640x128 : FVec Ideal S640x128 .fp8e4m3) (shapeCast S128x128 k shapeCasts_S1x128x128_S128x128 : FVec Ideal S128x128 .fp8e4m3)
      (constant S640x128 .f32 0x00000000#32)) (slicesOne h)) (scl (F := Ideal) (qa h) ka) inv)) i t
  refine (pv1_at _ v i d).trans ?_
  refine Finset.sum_congr rfl fun t _ => congrArg₂ (· * ·) ?_ rfl
  refine (key _).trans ?_
  rw [maskOf_at, codeOf_at, slice1_at, qk1_at]
  simp only [Nat.div_add_mod, Fin.eta]

/-- What one chunk of 256 keys adds to a row, its second half filtered. -/
theorem twoChunk_at (q : Vec Ideal S1x640x128 .fp8e4m3) (k v : Vec Ideal S1x256x128 .fp8e4m3) (qa : Fin 5 → EReal)
    (ka kb inv : EReal) (g : FVec Ideal S128x128 .fp8e4m3 → FVec Ideal S128x128 .fp8e4m3) (p : Fin 128 → Fin 128 → Prop)
    [∀ r c, Decidable (p r c)] (hg : ∀ x r c, g x (ix2 r c) = if p r c then x (ix2 r c) else (0 : EReal)) (i : Fin 640) (d : Fin 128) :
    twoChunk (F := Ideal) q k v qa ka kb inv g (ix2 i d) = (∑ t : Fin 128,
        weight (∑ e : Fin 128, q (ix3 0 i e) * k (ix3 0 ⟨t.val, by omega⟩ e)) (scl (F := Ideal) (qa ⟨i.val / 128, by omega⟩) ka) inv
          * v (ix3 0 ⟨t.val, by omega⟩ d))
      + ∑ t : Fin 128, (if p ⟨i.val % 128, by omega⟩ t then
        weight (∑ e : Fin 128, q (ix3 0 i e) * k (ix3 0 ⟨128 + t.val, by omega⟩ e)) (scl (F := Ideal) (qa ⟨i.val / 128, by omega⟩) kb) inv
          else 0) * v (ix3 0 ⟨128 + t.val, by omega⟩ d) := by
  refine (pv2_at _ v i d).trans ?_
  refine (Fin.sum_univ_add (a := 128) (b := 128) _).trans ?_
  have key := fun t => rows2_at (fun h => concatenate S128x256 1
    [⟨S128x128, codeOf (extractStridedSlice S128x128 ![128 * h.val, 128 * (0 : Fin 2).val] (matmul dot_S640x128_S256x128_S640x256_1_1_0_0_n_n none
    (shapeCast S640x128 q shapeCasts_S1x640x128_S640x128 : FVec Ideal S640x128 .fp8e4m3) (shapeCast S256x128 k shapeCasts_S1x256x128_S256x128 : FVec Ideal S256x128 .fp8e4m3)
    (constant S640x256 .f32 0x00000000#32)) (slicesTwo h 0)) (scl (F := Ideal) (qa h) ka) inv⟩,
     ⟨S128x128, g (codeOf (extractStridedSlice S128x128 ![128 * h.val, 128 * (1 : Fin 2).val] (matmul dot_S640x128_S256x128_S640x256_1_1_0_0_n_n none
    (shapeCast S640x128 q shapeCasts_S1x640x128_S640x128 : FVec Ideal S640x128 .fp8e4m3) (shapeCast S256x128 k shapeCasts_S1x256x128_S256x128 : FVec Ideal S256x128 .fp8e4m3)
    (constant S640x256 .f32 0x00000000#32)) (slicesTwo h 1)) (scl (F := Ideal) (qa h) kb) inv)⟩]
    concatenates_S128x128_S128x128_S128x256_d1) i t
  refine congrArg₂ (· + ·) (Finset.sum_congr rfl fun t _ => congrArg₂ (· * ·) ?_ rfl) (Finset.sum_congr rfl fun t _ => congrArg₂ (· * ·) ?_ rfl)
  · refine (key _).trans ?_
    rw [cols2_at, dif_pos (show (Fin.castAdd 128 t).val < 128 from t.isLt), codeOf_at, slice2_at, qk2_at]
    simp only [Nat.div_add_mod, Fin.eta]
    simp
  · refine (key _).trans ?_
    rw [cols2_at, dif_neg (show ¬ (Fin.natAdd 128 t).val < 128 from by simp), hg, codeOf_at, slice2_at, qk2_at]
    simp only [Nat.div_add_mod, Fin.eta]
    simp
/-! ## One run of tokens against all keys -/

variable (Q : Vec Ideal S8x640x128 .fp8e4m3) (K V : Vec Ideal S8x768x128 .fp8e4m3) (qsc : Vec Ideal S6x2x40 .f32)
  (ksc : Vec Ideal S6x2x8 .f32) (inv : EReal) (b : Fin 2) (g : Fin 8)

/-- What the keys of run `p` add to entry `d` of row `i` (head `i / 128` of the group, token `i % 128`) of run `n`. -/
def part (n : Fin 6) (i : Fin 640) (d : Fin 128) (p : Fin 6) : EReal := ∑ t : Fin 128,
  (if 128 * p.val + t.val ≤ 128 * n.val + i.val % 128 then
    weight (∑ e : Fin 128, Q (ix3 g i e) * K (ix3 g ⟨128 * p.val + t.val, by omega⟩ e))
      (scl (F := Ideal) (qsc (ix3 n b ⟨5 * g.val + i.val / 128, by omega⟩)) (ksc (ix3 p b g))) inv
    else 0) * V (ix3 g ⟨128 * p.val + t.val, by omega⟩ d)

/-- Keys after the run add nothing. -/
theorem part_after {n p : Fin 6} (h : n < p) (i : Fin 640) (d : Fin 128) : part Q K V qsc ksc inv b g n i d p = 0 := by
  refine Finset.sum_eq_zero fun t _ => ?_
  rw [if_neg (by have : n.val < p.val := h; have := i.isLt; omega), zero_mul]

/-- The chunk of 128 keys of the run itself. -/
theorem one_at (n : Fin 6) (i : Fin 640) (d : Fin 128) :
    one (F := Ideal) Q K V qsc ksc k0_pay204 inv b g n (ix2 i d) = part Q K V qsc ksc inv b g n i d n := by
  unfold one
  rw [oneChunk_at]
  unfold part
  refine Finset.sum_congr rfl fun t _ => congrArg₂ (· * ·) ?_ rfl
  simp only [Nat.add_le_add_iff_left]
  rfl

/-- The first run of a pair. -/
theorem blk2_lo (X : Vec Ideal S8x768x128 .fp8e4m3) (j : Fin 3) (t e : Fin 128) :
    blk2 X g j (ix3 0 ⟨t.val, by omega⟩ e) = X (ix3 g ⟨128 * (2 * j.val) + t.val, by omega⟩ e) :=
  congrArg (fun r => X (ix3 g r e)) (Fin.ext (by show 256 * j.val + t.val = 128 * (2 * j.val) + t.val; omega))

/-- The second run of a pair. -/
theorem blk2_hi (X : Vec Ideal S8x768x128 .fp8e4m3) (j : Fin 3) (t e : Fin 128) :
    blk2 X g j (ix3 0 ⟨128 + t.val, by omega⟩ e) = X (ix3 g ⟨128 * (2 * j.val + 1) + t.val, by omega⟩ e) :=
  congrArg (fun r => X (ix3 g r e)) (Fin.ext (by show 256 * j.val + (128 + t.val) = 128 * (2 * j.val + 1) + t.val; omega))

/-- A chunk of 256 keys before the run. -/
theorem two_at (j : Fin 3) (n : Fin 6) (hj : 2 * j.val + 1 < n.val) (i : Fin 640) (d : Fin 128) :
    two (F := Ideal) Q K V qsc ksc inv b g j n id (ix2 i d)
      = part Q K V qsc ksc inv b g n i d ⟨2 * j.val, by omega⟩ + part Q K V qsc ksc inv b g n i d ⟨2 * j.val + 1, by omega⟩ := by
  unfold two
  rw [twoChunk_at _ _ _ _ _ _ _ id (fun _ _ => True) (fun x r c => (if_pos trivial).symm)]
  unfold part
  refine congrArg₂ (· + ·) (Finset.sum_congr rfl fun t _ => ?_) (Finset.sum_congr rfl fun t _ => ?_)
  · rw [if_pos (show 128 * (2 * j.val) + t.val ≤ 128 * n.val + i.val % 128 from by omega)]
    simp only [blk2_lo]
    rfl
  · rw [if_pos trivial, if_pos (show 128 * (2 * j.val + 1) + t.val ≤ 128 * n.val + i.val % 128 from by omega)]
    simp only [blk2_hi]
    rfl

/-- The chunk of 256 keys that ends with the run. -/
theorem two_last_at (j : Fin 3) (n : Fin 6) (hj : 2 * j.val + 1 = n.val) (i : Fin 640) (d : Fin 128) :
    two (F := Ideal) Q K V qsc ksc inv b g j n (maskOf k0_pay204) (ix2 i d)
      = part Q K V qsc ksc inv b g n i d ⟨2 * j.val, by omega⟩ + part Q K V qsc ksc inv b g n i d ⟨2 * j.val + 1, by omega⟩ := by
  unfold two
  rw [twoChunk_at _ _ _ _ _ _ _ (maskOf k0_pay204) (fun r c => c.val ≤ r.val) (fun x r c => maskOf_at x r c)]
  unfold part
  refine congrArg₂ (· + ·) (Finset.sum_congr rfl fun t _ => ?_) (Finset.sum_congr rfl fun t _ => ?_)
  · rw [if_pos (show 128 * (2 * j.val) + t.val ≤ 128 * n.val + i.val % 128 from by omega)]
    simp only [blk2_lo]
    rfl
  · simp only [blk2_hi, hj, Nat.add_le_add_iff_left]
    rfl

/-- The sum a run ends with: every run of keys, those after it adding nothing. -/
theorem acc_at (n : Fin 6) (i : Fin 640) (d : Fin 128) :
    acc (F := Ideal) Q K V qsc ksc k0_pay204 inv b g n (ix2 i d) = ∑ p : Fin 6, part Q K V qsc ksc inv b g n i d p := by
  have z := fun (p : Fin 6) (h : n < p) => part_after Q K V qsc ksc inv b g h i d
  rw [Fin.sum_univ_six]
  fin_cases n
  · rw [z 1 (by decide), z 2 (by decide), z 3 (by decide), z 4 (by decide), z 5 (by decide)]
    simp only [add_zero]
    exact one_at Q K V qsc ksc inv b g 0 i d
  · rw [z 2 (by decide), z 3 (by decide), z 4 (by decide), z 5 (by decide)]
    simp only [add_zero]
    exact two_last_at Q K V qsc ksc inv b g 0 1 rfl i d
  · rw [z 3 (by decide), z 4 (by decide), z 5 (by decide)]
    simp only [add_zero]
    exact congrArg₂ (· + ·) (two_at Q K V qsc ksc inv b g 0 2 (by decide) i d) (one_at Q K V qsc ksc inv b g 2 i d)
  · rw [z 4 (by decide), z 5 (by decide)]
    simp only [add_zero]
    rw [add_assoc (_ + _)]
    exact congrArg₂ (· + ·) (two_at Q K V qsc ksc inv b g 0 3 (by decide) i d) (two_last_at Q K V qsc ksc inv b g 1 3 rfl i d)
  · rw [z 5 (by decide)]
    simp only [add_zero]
    rw [add_assoc (part Q K V qsc ksc inv b g _ i d 0 + _)]
    exact congrArg₂ (· + ·) (congrArg₂ (· + ·) (two_at Q K V qsc ksc inv b g 0 4 (by decide) i d) (two_at Q K V qsc ksc inv b g 1 4 (by decide) i d)) (one_at Q K V qsc ksc inv b g 4 i d)
  · rw [add_assoc (_ + _ + _ + _), add_assoc (part Q K V qsc ksc inv b g _ i d 0 + _)]
    exact congrArg₂ (· + ·) (congrArg₂ (· + ·) (two_at Q K V qsc ksc inv b g 0 5 (by decide) i d) (two_at Q K V qsc ksc inv b g 1 5 (by decide) i d)) (two_last_at Q K V qsc ksc inv b g 2 5 rfl i d)

/-- One entry of the output block of a run. -/
theorem outBlk_at (vsc : Vec Ideal S8x128 .f32) (ps : EReal) (n : Fin 6) (r : Fin 128) (h : Fin 5) (d : Fin 128) (y : S1x128x5120.Idx)
    (hy1 : (y 1).val = r.val) (hy2 : (y 2).val = 640 * g.val + 128 * h.val + d.val) :
    outBlk (F := Ideal) Q K V qsc ksc vsc k0_pay204 ps b n y
      = (∑ p : Fin 6, part Q K V qsc ksc (k0_pay1 (F := Ideal) ps) b g n ⟨128 * h.val + r.val, by omega⟩ d p) * (vsc (ix2 g d) * ps) := by
  have hg : (⟨(y 2).val / 640, by have h : (y 2).val < 5120 := (y 2).isLt; omega⟩ : Fin 8) = g := Fin.ext (by show (y 2).val / 640 = g.val; omega)
  have hh : (⟨(y 2).val / 128 % 5, by omega⟩ : Fin 5) = h := Fin.ext (by show (y 2).val / 128 % 5 = h.val; omega)
  have hd : (⟨(y 2).val % 128, by omega⟩ : Fin 128) = d := Fin.ext (by show (y 2).val % 128 = d.val; omega)
  have hr : (y 1 : Fin 128) = r := Fin.ext hy1
  unfold outBlk
  rw [hg, hh, hd, hr, ← acc_at]
  generalize acc (F := Ideal) Q K V qsc ksc k0_pay204 (k0_pay1 (F := Ideal) ps) b g n = o
  have hs : ∀ (w : FVec Ideal S128x128 .f32), shapeCast S1x128x128 (truncf .bf16 w bitsLt_bf16_f32 : FVec Ideal S128x128 .bf16) shapeCasts_S128x128_S1x128x128 (ix3 0 r d) = w (ix2 r d) := by
    intro w; pointwise
  unfold outOf
  rw [hs]
  have hm : ∀ (w x : FVec Ideal S128x128 .f32), mulf w x (ix2 r d) = w (ix2 r d) * x (ix2 r d) := fun _ _ => rfl
  rw [hm, slice1_at]
  congr 1

end Cert.KernelIdeal.Hand
-- ==== Proof.Reads.lean ====
module

public import proofs.«01_k».proof.Proof.FrameVal
public import proofs.«01_k».proof.Proof.Chunks
public import Idealize.ShloMosaic.Lib.Pipeline.ValueKit

public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- The block index of every window at every point. -/
theorem idx : ∀ t : Fin cfg0.N, win0_0.index t = ![0, 0] ∧ win0_1.index t = ![0, 0, 0] ∧ win0_2.index t = ![0, 0, 0] ∧ win0_3.index t = ![0, 0]
    ∧ win0_4.index t = ![t.val / 6, t.val % 6, 0] ∧ win0_5.index t = ![t.val / 6, t.val % 6, 0] ∧ win0_6.index t = ![t.val / 6, t.val % 6, 0]
    ∧ win0_7.index t = ![t.val / 6, t.val % 6, 0] := by decide +kernel

/-- The weights' scale as the kernel stages it. -/
theorem read0 (c : Dev nD) (t : Fin cfg0.N) :
    (iblk m c 0 t : Vec Ideal S1x1 .f32) (ix2 0 0) = (m ((c : Thread nD τ).loc main_arg6) : Vec Ideal S_ .f32) (fun a => a.elim0) := by
  blk_ext! [iblk, V, idx t]

/-- The queries' scales as the kernel stages them. -/
theorem read1 (c : Dev nD) (t : Fin cfg0.N) (n : Fin 6) (b : Fin 2) (x : Fin 40) :
    (iblk m c 1 t : Vec Ideal S6x2x40 .f32) (ix3 n b x) = (m ((c : Thread nD τ).loc main_arg1) : Vec Ideal S2x6x40 .f32) (ix3 b n x) := by
  blk_ext! [iblk, V, idx t]

/-- The keys' scales as the kernel stages them. -/
theorem read2 (c : Dev nD) (t : Fin cfg0.N) (n : Fin 6) (b : Fin 2) (x : Fin 8) :
    (iblk m c 2 t : Vec Ideal S6x2x8 .f32) (ix3 n b x) = (m ((c : Thread nD τ).loc main_arg3) : Vec Ideal S2x6x8 .f32) (ix3 b n x) := by
  blk_ext! [iblk, V, idx t]

/-- The values' scales as the kernel stages them. -/
theorem read3 (c : Dev nD) (t : Fin cfg0.N) (g : Fin 8) (d : Fin 128) :
    (iblk m c 3 t : Vec Ideal S8x128 .f32) (ix2 g d) = (m ((c : Thread nD τ).loc main_arg5) : Vec Ideal S8x128 .f32) (ix2 g d) := by
  blk_ext! [iblk, V, idx t]

/-- The queries' block of a point: its run of tokens, token by token and head by head. -/
theorem read4 (c : Dev nD) (t : Fin cfg0.N) (b : Fin 2) (n : Fin 6) (hb : t.val / 6 = b.val) (hn : t.val % 6 = n.val) (r : Fin 128) (x : Fin 40) (e : Fin 128)
    (hr : r.val * 40 + x.val < 5120) :
    (iblk m c 4 t : Vec Ideal S1x5120x128 .fp8e4m3) (ix3 0 ⟨r.val * 40 + x.val, hr⟩ e)
      = (m ((c : Thread nD τ).loc main_arg0) : Vec Ideal S2x768x40x128 .fp8e4m3) (ix4 b ⟨128 * n.val + r.val, by omega⟩ x e) := by
  blk_ext! [iblk, V, idx t, hb, hn]

/-- The keys' block of a point: its run of tokens, token by token and group by group. -/
theorem read5 (c : Dev nD) (t : Fin cfg0.N) (b : Fin 2) (n : Fin 6) (hb : t.val / 6 = b.val) (hn : t.val % 6 = n.val) (r : Fin 128) (x : Fin 8) (e : Fin 128)
    (hr : r.val * 8 + x.val < 1024) :
    (iblk m c 5 t : Vec Ideal S1x1024x128 .fp8e4m3) (ix3 0 ⟨r.val * 8 + x.val, hr⟩ e)
      = (m ((c : Thread nD τ).loc main_arg2) : Vec Ideal S2x768x8x128 .fp8e4m3) (ix4 b ⟨128 * n.val + r.val, by omega⟩ x e) := by
  blk_ext! [iblk, V, idx t, hb, hn]

/-- The values' block of a point: its run of tokens, token by token and group by group. -/
theorem read6 (c : Dev nD) (t : Fin cfg0.N) (b : Fin 2) (n : Fin 6) (hb : t.val / 6 = b.val) (hn : t.val % 6 = n.val) (r : Fin 128) (x : Fin 8) (e : Fin 128)
    (hr : r.val * 8 + x.val < 1024) :
    (iblk m c 6 t : Vec Ideal S1x1024x128 .fp8e4m3) (ix3 0 ⟨r.val * 8 + x.val, hr⟩ e)
      = (m ((c : Thread nD τ).loc main_arg4) : Vec Ideal S2x768x8x128 .fp8e4m3) (ix4 b ⟨128 * n.val + r.val, by omega⟩ x e) := by
  blk_ext! [iblk, V, idx t, hb, hn]
end Cert.KernelIdeal.Hand
-- ==== Proof.Spec.lean ====
module

public import proofs.«01_k».proof.Proof.Weight
public import proofs.«01_k».proof.Proof.Attend

public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The attention, entry by entry -/

/-- The weight of key token `j` for query token `i`, head `h` of group `g`: a code on and below the diagonal, zero above. -/
def code (q : Fin 2 → Fin 768 → Fin 40 → Fin 128 → EReal) (k : Fin 2 → Fin 768 → Fin 8 → Fin 128 → EReal)
    (qs : Fin 2 → Fin 6 → Fin 40 → EReal) (ks : Fin 2 → Fin 6 → Fin 8 → EReal) (ps : EReal)
    (b : Fin 2) (i : Fin 768) (g : Fin 8) (h : Fin 5) (j : Fin 768) : EReal :=
  if j.val ≤ i.val then
    weight (∑ e : Fin 128, q b i ⟨5 * g.val + h.val, by omega⟩ e * k b j g e)
      (qs b ⟨i.val / 128, by omega⟩ ⟨5 * g.val + h.val, by omega⟩ * ks b ⟨j.val / 128, by omega⟩ g * Ideal.ofBits .f32 0x3DB504F3#32)
      (Ideal.div 1 ps)
  else 0

/-- One entry of the result: the codes times the values, over all keys, times the two scales. -/
def attn (q : Fin 2 → Fin 768 → Fin 40 → Fin 128 → EReal) (k v : Fin 2 → Fin 768 → Fin 8 → Fin 128 → EReal)
    (qs : Fin 2 → Fin 6 → Fin 40 → EReal) (ks : Fin 2 → Fin 6 → Fin 8 → EReal) (vs : Fin 8 → Fin 128 → EReal) (ps : EReal)
    (b : Fin 2) (i : Fin 768) (g : Fin 8) (h : Fin 5) (d : Fin 128) : EReal :=
  (∑ j : Fin 768, code q k qs ks ps b i g h j * v b j g d) * (vs g d * ps)

/-- The result array. -/
def attnArr (q : Fin 2 → Fin 768 → Fin 40 → Fin 128 → EReal) (k v : Fin 2 → Fin 768 → Fin 8 → Fin 128 → EReal)
    (qs : Fin 2 → Fin 6 → Fin 40 → EReal) (ks : Fin 2 → Fin 6 → Fin 8 → EReal) (vs : Fin 8 → Fin 128 → EReal) (ps : EReal) :
    Vec Ideal ⟨3, ![2, 768, 5120]⟩ .bf16 := fun y =>
  attn q k v qs ks vs ps (y 0) (y 1) ⟨(y 2).val / 640, by have h : (y 2).val < 5120 := (y 2).isLt; omega⟩
    ⟨(y 2).val / 128 % 5, by omega⟩ ⟨(y 2).val % 128, by omega⟩

end Cert.KernelIdeal.Hand
-- ==== Proof.KernelValue.lean ====
module

public import proofs.«01_k».proof.Proof.FrameVal
public import proofs.«01_k».proof.Proof.Reads
public import proofs.«01_k».proof.Proof.Spec
public import Idealize.ShloMosaic.Lib.Pipeline.ValueKit

public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-! ## The arguments by coordinates -/

/-- The queries: batch, token, head, coordinate. -/
def argQ (c : Dev nD) (b : Fin 2) (i : Fin 768) (x : Fin 40) (e : Fin 128) : EReal :=
  (m ((c : Thread nD τ).loc main_arg0) : Vec Ideal S2x768x40x128 .fp8e4m3) (ix4 b i x e)
/-- The queries' scales: batch, run, head. -/
def argQs (c : Dev nD) (b : Fin 2) (n : Fin 6) (x : Fin 40) : EReal :=
  (m ((c : Thread nD τ).loc main_arg1) : Vec Ideal S2x6x40 .f32) (ix3 b n x)
/-- The keys: batch, token, group, coordinate. -/
def argK (c : Dev nD) (b : Fin 2) (i : Fin 768) (x : Fin 8) (e : Fin 128) : EReal :=
  (m ((c : Thread nD τ).loc main_arg2) : Vec Ideal S2x768x8x128 .fp8e4m3) (ix4 b i x e)
/-- The keys' scales: batch, run, group. -/
def argKs (c : Dev nD) (b : Fin 2) (n : Fin 6) (x : Fin 8) : EReal :=
  (m ((c : Thread nD τ).loc main_arg3) : Vec Ideal S2x6x8 .f32) (ix3 b n x)
/-- The values: batch, token, group, coordinate. -/
def argV (c : Dev nD) (b : Fin 2) (i : Fin 768) (x : Fin 8) (e : Fin 128) : EReal :=
  (m ((c : Thread nD τ).loc main_arg4) : Vec Ideal S2x768x8x128 .fp8e4m3) (ix4 b i x e)
/-- The values' scales: group, coordinate. -/
def argVs (c : Dev nD) (g : Fin 8) (d : Fin 128) : EReal :=
  (m ((c : Thread nD τ).loc main_arg5) : Vec Ideal S8x128 .f32) (ix2 g d)
/-- The scale of the weights. -/
def argPs (c : Dev nD) : EReal := (m ((c : Thread nD τ).loc main_arg6) : Vec Ideal S_ .f32) (fun a => a.elim0)

/-- The result, as a function of the arguments. -/
def result (c : Dev nD) : Vec Ideal S2x768x5120 .bf16 :=
  attnArr (argQ m c) (argK m c) (argV m c) (argQs m c) (argKs m c) (argVs m c) (argPs m c)

/-- The batch coordinate of a point, as a number. -/
theorem b_val (t : Fin cfg0.N) : (bOf (grid0.coords t)).val = t.val / 6 := coords0 t
/-- The run coordinate of a point, as a number. -/
theorem n_val (t : Fin cfg0.N) : (nOf (grid0.coords t)).val = t.val % 6 := coords1 t

/-- The queries of a point, split by heads: row `i` of group `g` is token `i % 128` of the run, head `i / 128` of the group. -/
theorem q_at (c : Dev nD) (t : Fin cfg0.N) (g : Fin 8) (h : Fin 5) (r : Fin 128) (e : Fin 128) :
    splitQ (iblk m c 4 t) (ix3 g ⟨128 * h.val + r.val, by omega⟩ e)
      = argQ m c (bOf (grid0.coords t)) ⟨128 * (nOf (grid0.coords t)).val + r.val, by omega⟩ ⟨5 * g.val + h.val, by omega⟩ e := by
  refine Eq.trans ?_ (read4 m c t (bOf (grid0.coords t)) (nOf (grid0.coords t)) (b_val t).symm (n_val t).symm r ⟨5 * g.val + h.val, by omega⟩ e (by show r.val * 40 + (5 * g.val + h.val) < 5120; omega))
  unfold splitQ
  congr 2
  exact Fin.ext (by show (128 * h.val + r.val) % 128 * 40 + (g.val * 5 + (128 * h.val + r.val) / 128) = r.val * 40 + (5 * g.val + h.val); omega)

/-- A row of the scratch is a row of the block fetched at the point of its run. -/
theorem kvAll_at (x : Fin cfg0.N → Vec Ideal S1x1024x128 .fp8e4m3) (b : Fin 2) (g : Fin 8) (p : Fin 6) (s e : Fin 128) (hu : 6 * b.val + p.val < cfg0.N) :
    kvAll x b (ix3 g ⟨128 * p.val + s.val, by omega⟩ e) = x ⟨6 * b.val + p.val, hu⟩ (ix3 0 ⟨s.val * 8 + g.val, by omega⟩ e) := by
  unfold kvAll
  congr 2
  · exact Fin.ext (by show 6 * b.val + (128 * p.val + s.val) / 128 = 6 * b.val + p.val; omega)
  · exact Fin.ext (by show (128 * p.val + s.val) % 128 * 8 + g.val = s.val * 8 + g.val; omega)

/-- A batch and a run name a point of the grid. -/
theorem point_lt (b : Fin 2) (p : Fin 6) : 6 * b.val + p.val < cfg0.N := by have := N_0; show _ < grid0.N; omega

/-- The kept keys of a batch entry: row `128 p + s` of head `g` is that token's. -/
theorem k_at (c : Dev nD) (b : Fin 2) (g : Fin 8) (p : Fin 6) (s e : Fin 128) :
    kvAll (fun t => iblk m c 5 t) b (ix3 g ⟨128 * p.val + s.val, by omega⟩ e) = argK m c b ⟨128 * p.val + s.val, by omega⟩ g e :=
  (kvAll_at _ b g p s e (point_lt b p)).trans (read5 m c ⟨6 * b.val + p.val, point_lt b p⟩ b p (by show (6 * b.val + p.val) / 6 = b.val; omega)
    (by show (6 * b.val + p.val) % 6 = p.val; omega) s g e (by omega))

/-- The kept values of a batch entry. -/
theorem v_at (c : Dev nD) (b : Fin 2) (g : Fin 8) (p : Fin 6) (s e : Fin 128) :
    kvAll (fun t => iblk m c 6 t) b (ix3 g ⟨128 * p.val + s.val, by omega⟩ e) = argV m c b ⟨128 * p.val + s.val, by omega⟩ g e :=
  (kvAll_at _ b g p s e (point_lt b p)).trans (read6 m c ⟨6 * b.val + p.val, point_lt b p⟩ b p (by show (6 * b.val + p.val) / 6 = b.val; omega)
    (by show (6 * b.val + p.val) % 6 = p.val; omega) s g e (by omega))

/-- The kernel's reciprocal of the weights' scale. -/
theorem inv_eq (ps : EReal) : k0_pay1 (F := Ideal) ps = Ideal.div 1 ps := by pointwise [k0_pay1]

/-- What a run of keys adds to an entry, over the arguments. -/
theorem part_at (c : Dev nD) (t : Fin cfg0.N) (g : Fin 8) (h : Fin 5) (r d : Fin 128) (p : Fin 6) :
    part (splitQ (iblk m c 4 t)) (kvAll (fun t => iblk m c 5 t) (bOf (grid0.coords t))) (kvAll (fun t => iblk m c 6 t) (bOf (grid0.coords t)))
      (iblk m c 1 t) (iblk m c 2 t) (Ideal.div 1 (argPs m c)) (bOf (grid0.coords t)) g (nOf (grid0.coords t)) ⟨128 * h.val + r.val, by omega⟩ d p
    = ∑ s : Fin 128, code (argQ m c) (argK m c) (argQs m c) (argKs m c) (argPs m c) (bOf (grid0.coords t)) ⟨128 * (nOf (grid0.coords t)).val + r.val, by omega⟩ g h
        ⟨128 * p.val + s.val, by omega⟩ * argV m c (bOf (grid0.coords t)) ⟨128 * p.val + s.val, by omega⟩ g d := by
  unfold part code
  refine Finset.sum_congr rfl fun s _ => ?_
  have e1 : (128 * h.val + r.val) % 128 = r.val := by omega
  have e2 : (128 * h.val + r.val) / 128 = h.val := by omega
  have e3 : (128 * (nOf (grid0.coords t)).val + r.val) / 128 = (nOf (grid0.coords t)).val := by omega
  have e4 : (128 * p.val + s.val) / 128 = p.val := by omega
  simp only [q_at, k_at, v_at, scl_eq, e1, e2, e3, e4, Fin.eta, read1, read2]
  rfl

/-- What a point writes back, over the arguments. -/
theorem outAt_eq (c : Dev nD) (t : Fin cfg0.N) (y : S1x128x5120.Idx) :
    outAt m c t y = result m c (ix3 (bOf (grid0.coords t)) ⟨128 * (nOf (grid0.coords t)).val + (y 1).val, by
      have h : (y 1).val < 128 := (y 1).isLt
      omega⟩ (y 2)) := by
  have h1 : (y 1).val < 128 := (y 1).isLt
  have h2 : (y 2).val < 5120 := (y 2).isLt
  unfold outAt
  rw [outBlk_at _ _ _ _ _ _ ⟨(y 2).val / 640, by omega⟩ _ _ _ (y 1) ⟨(y 2).val / 128 % 5, by omega⟩ ⟨(y 2).val % 128, by omega⟩ y rfl
    (by show (y 2).val = 640 * ((y 2).val / 640) + 128 * ((y 2).val / 128 % 5) + (y 2).val % 128; omega), inv_eq, read0, read3]
  refine congrArg (· * _) ?_
  refine (Finset.sum_congr rfl fun p _ => part_at m c t _ _ _ _ p).trans ?_
  refine Fin.sum_mul_add_congr fun p s hl => ?_
  have e : (⟨128 * p.val + s.val, by omega⟩ : Fin 768) = ⟨p.val * 128 + s.val, hl⟩ := Fin.ext (by show 128 * p.val + s.val = p.val * 128 + s.val; omega)
  rw [e]
  rfl

/-- THE OUTPUT ARRAY after the run is the attention of the arguments. -/
theorem arr_eq (c : Dev nD) : (dats m 0 c).arrAt 7 cfg0.N = result m c := by
  refine (dats m 0 c).arrAt_eq_of_covers 7 _ (by decide +kernel) fun t hf y => ?_
  blk_simp
  rw [after0_7, outAt_eq]
  congr 1
  have hb := b_val t
  have hn := n_val t
  blk_ext [idx t, hb, hn]

end Cert.KernelIdeal.Hand
-- ==== Proof.RefReads.lean ====
module

public import proofs.«01_k».proof.Proof.Gen.ReferenceIdeal.Value
public import proofs.«01_k».proof.Proof.Spec
public import Idealize.ShloMosaic.Lib.Pipeline.ValueKit

public import Idealize.ShloMosaic.Lib.Pointwise

@[expose] public section

set_option maxRecDepth 16384

noncomputable section

namespace Cert.ReferenceIdeal.Hand

open Cert.ReferenceIdeal Cert.ReferenceIdeal.Gen
open Cert.KernelIdeal.Hand (weight code attn attnArr)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- The block index of every window at every point. -/
theorem idx : ∀ t : Fin cfg0.N, win0_0.index t = ![0, 0, 0, 0, 0] ∧ win0_1.index t = ![0, 0, 0, 0] ∧ win0_2.index t = ![0, 0, 0, 0] ∧ win0_3.index t = ![0, 0, 0]
    ∧ win0_4.index t = ![0, 0, 0, 0] ∧ win0_5.index t = ![0, 0] ∧ win0_6.index t = ![0, 0]
    ∧ win0_7.index t = ![0, 0, 0] := by decide +kernel

/-! ## The arguments by coordinates -/

/-- The queries: batch, token, head, coordinate. -/
def argQ (c : Dev nD) (b : Fin 2) (i : Fin 768) (x : Fin 40) (e : Fin 128) : EReal :=
  (m ((c : Thread nD τ).loc main_arg0) : Vec Ideal S2x768x40x128 .fp8e4m3) (ix4 b i x e)
/-- The queries' scales: batch, run, head. -/
def argQs (c : Dev nD) (b : Fin 2) (n : Fin 6) (x : Fin 40) : EReal :=
  (m ((c : Thread nD τ).loc main_arg1) : Vec Ideal S2x6x40 .f32) (ix3 b n x)
/-- The keys: batch, token, group, coordinate. -/
def argK (c : Dev nD) (b : Fin 2) (i : Fin 768) (x : Fin 8) (e : Fin 128) : EReal :=
  (m ((c : Thread nD τ).loc main_arg2) : Vec Ideal S2x768x8x128 .fp8e4m3) (ix4 b i x e)
/-- The keys' scales: batch, run, group. -/
def argKs (c : Dev nD) (b : Fin 2) (n : Fin 6) (x : Fin 8) : EReal :=
  (m ((c : Thread nD τ).loc main_arg3) : Vec Ideal S2x6x8 .f32) (ix3 b n x)
/-- The values: batch, token, group, coordinate. -/
def argV (c : Dev nD) (b : Fin 2) (i : Fin 768) (x : Fin 8) (e : Fin 128) : EReal :=
  (m ((c : Thread nD τ).loc main_arg4) : Vec Ideal S2x768x8x128 .fp8e4m3) (ix4 b i x e)
/-- The values' scales: group, coordinate. -/
def argVs (c : Dev nD) (g : Fin 8) (d : Fin 128) : EReal :=
  (m ((c : Thread nD τ).loc main_arg5) : Vec Ideal S8x128 .f32) (ix2 g d)
/-- The scale of the weights. -/
def argPs (c : Dev nD) : EReal := (m ((c : Thread nD τ).loc main_arg6) : Vec Ideal S_ .f32) (fun a => a.elim0)

/-! ## The reads of the staged arrays -/

/-- The queries by group, head of the group, token and coordinate. -/
theorem read0 (c : Dev nD) (t : Fin cfg0.N) (b : Fin 2) (g : Fin 8) (h : Fin 5) (i : Fin 768) (e : Fin 128) :
    (iblk m c 0 t : Vec Ideal S2x8x5x768x128 .fp8e4m3) (ix5 b g h i e) = argQ m c b i ⟨5 * g.val + h.val, by omega⟩ e := by
  unfold argQ
  blk_ext! [iblk, V, idx t]
/-- The queries' scale of a token is the scale of its run of 128. -/
theorem read1 (c : Dev nD) (t : Fin cfg0.N) (b : Fin 2) (g : Fin 8) (h : Fin 5) (i : Fin 768) :
    (iblk m c 1 t : Vec Ideal S2x8x5x768 .f32) (ix4 b g h i) = argQs m c b ⟨i.val / 128, by omega⟩ ⟨5 * g.val + h.val, by omega⟩ := by
  unfold argQs
  blk_ext! [iblk, V, idx t]
/-- The keys by group, token and coordinate. -/
theorem read2 (c : Dev nD) (t : Fin cfg0.N) (b : Fin 2) (g : Fin 8) (i : Fin 768) (e : Fin 128) :
    (iblk m c 2 t : Vec Ideal S2x8x768x128 .fp8e4m3) (ix4 b g i e) = argK m c b i g e := by
  unfold argK
  blk_ext! [iblk, V, idx t]
/-- The keys' scale of a token is the scale of its run of 128. -/
theorem read3 (c : Dev nD) (t : Fin cfg0.N) (b : Fin 2) (g : Fin 8) (j : Fin 768) :
    (iblk m c 3 t : Vec Ideal S2x8x768 .f32) (ix3 b g j) = argKs m c b ⟨j.val / 128, by omega⟩ g := by
  unfold argKs
  blk_ext! [iblk, V, idx t]
/-- The values by group, token and coordinate. -/
theorem read4 (c : Dev nD) (t : Fin cfg0.N) (b : Fin 2) (g : Fin 8) (i : Fin 768) (e : Fin 128) :
    (iblk m c 4 t : Vec Ideal S2x8x768x128 .fp8e4m3) (ix4 b g i e) = argV m c b i g e := by
  unfold argV
  blk_ext! [iblk, V, idx t]
/-- The values' scales are staged as they come. -/
theorem read5 (c : Dev nD) (t : Fin cfg0.N) (g : Fin 8) (d : Fin 128) :
    (iblk m c 5 t : Vec Ideal S8x128 .f32) (ix2 g d) = argVs m c g d := by
  unfold argVs
  blk_ext! [iblk, V, idx t]
/-- The weights' scale, staged as an array of one entry. -/
theorem read6 (c : Dev nD) (t : Fin cfg0.N) : (iblk m c 6 t : Vec Ideal S1x1 .f32) (ix2 0 0) = argPs m c := by
  unfold argPs
  blk_ext! [iblk, V, idx t]
end Cert.ReferenceIdeal.Hand
-- ==== Proof.RefValue.lean ====
module

public import proofs.«01_k».proof.Proof.RefReads

public import Idealize.ShloMosaic.Lib.Pipeline.ValueKit

public import Idealize.ShloMosaic.Lib.Pointwise

@[expose] public section

set_option maxRecDepth 16384

noncomputable section

namespace Cert.ReferenceIdeal.Hand

open Cert.ReferenceIdeal Cert.ReferenceIdeal.Gen
open Cert.KernelIdeal.Hand (weight code attn attnArr)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- The largest code is not negative. -/
theorem top_nonneg : 0 ≤ Ideal.ofBits FTy.f32 1138753536#32 := by
  have h : Ideal.ofBits FTy.f32 1138753536#32 = ((448 : ℝ) : EReal) := by
    simp [Ideal.ofBits, Ideal.ieee, -EReal.coe_mul]
    norm_num
  rw [h]
  exact_mod_cast (by norm_num : (0 : ℝ) ≤ 448)

/-- Signed comparison of two small words is the comparison of the numbers. -/
theorem sle_small (a b : Fin 768) :
    IntOp.cmpi CmpIPredicate.sle (BitVec.ofNat 32 a.val) (BitVec.ofNat 32 b.val) = BitVec.ofBool (decide (a.val ≤ b.val)) := by
  exact WordCmp.cmpi_sle_ofNat (by have := a.isLt; omega) (by have := b.isLt; omega)

/-- One entry of the reference's body. -/
theorem body_at (q : Vec Ideal S2x8x5x768x128 .fp8e4m3) (qs : Vec Ideal S2x8x5x768 .f32) (k : Vec Ideal S2x8x768x128 .fp8e4m3)
    (ks : Vec Ideal S2x8x768 .f32) (v : Vec Ideal S2x8x768x128 .fp8e4m3) (vs : Vec Ideal S8x128 .f32) (ps : Vec Ideal S1x1 .f32)
    (b : Fin 2) (i : Fin 768) (z : Fin 5120) (g : Fin 8) (h : Fin 5) (d : Fin 128)
    (hg : g.val = z.val / 640) (hh : h.val = z.val / 128 % 5) (hd : d.val = z.val % 128) :
    k0_pay1 (F := Ideal) (k0_pay2 v) (k0_pay3 ps) (k0_pay4 q k qs ks) k0_pay5 (k0_pay6 (F := Ideal)) vs (ix3 b i z)
      = (∑ j : Fin 768, (if j.val ≤ i.val then
            weight (∑ e : Fin 128, q (ix5 b g h i e) * k (ix4 b g j e)) (qs (ix4 b g h i) * ks (ix3 b g j) * Ideal.ofBits .f32 0x3DB504F3#32) (Ideal.div 1 (ps (ix2 0 0)))
          else 0) * v (ix4 b g j d)) * (vs (ix2 g d) * ps (ix2 0 0)) := by
  pointwise [k0_pay1, k0_pay2, k0_pay3, k0_pay4, k0_pay5, k0_pay6, weight]
  have eg : (⟨z.val / 640, by omega⟩ : Fin 8) = g := Fin.ext hg.symm
  have eh : (⟨z.val / 128 % 5, by omega⟩ : Fin 5) = h := Fin.ext hh.symm
  have ed : (⟨z.val % 128, by omega⟩ : Fin 128) = d := Fin.ext hd.symm
  simp only [eg, eh, ed]
  rw [mul_comm (ps _)]
  refine congrArg (· * _) (Finset.sum_congr rfl fun j _ => (mul_comm _ _).trans (congrArg (· * _) ?_))
  rw [sle_small]
  by_cases h : j.val ≤ i.val
  · rw [if_pos h, decide_eq_true h]
    rfl
  · rw [if_neg h, decide_eq_false h]
    show min _ (max 0 0) = (0 : EReal)
    rw [max_self, min_eq_right top_nonneg]

/-- The result, as a function of the arguments. -/
def result (c : Dev nD) : Vec Ideal S2x768x5120 .bf16 :=
  attnArr (argQ m c) (argK m c) (argV m c) (argQs m c) (argKs m c) (argVs m c) (argPs m c)

/-- One entry of what the one point writes back, over the arguments. -/
theorem block_at (c : Dev nD) (t : Fin cfg0.N) (b : Fin 2) (i : Fin 768) (z : Fin 5120) (g : Fin 8) (h : Fin 5) (d : Fin 128)
    (hg : g.val = z.val / 640) (hh : h.val = z.val / 128 % 5) (hd : d.val = z.val % 128) :
    k0_pay1 (F := Ideal) (k0_pay2 (iblk m c 4 t)) (k0_pay3 (iblk m c 6 t)) (k0_pay4 (iblk m c 0 t) (iblk m c 2 t) (iblk m c 1 t) (iblk m c 3 t))
      k0_pay5 (k0_pay6 (F := Ideal)) (iblk m c 5 t) (ix3 b i z)
      = attn (argQ m c) (argK m c) (argV m c) (argQs m c) (argKs m c) (argVs m c) (argPs m c) b i g h d := by
  rw [body_at _ _ _ _ _ _ _ b i z g h d hg hh hd, read6, read5]
  unfold attn code
  refine congrArg (· * _) (Finset.sum_congr rfl fun j _ => congrArg₂ (· * ·) ?_ (read4 m c t b g j d))
  rw [read1 m c t b g h i, read3 m c t b g j]
  refine congrArg (fun s => if j.val ≤ i.val then weight s _ _ else 0) (Finset.sum_congr rfl fun e _ => ?_)
  exact congrArg₂ (· * ·) (read0 m c t b g h i e) (read2 m c t b g j e)

/-- THE OUTPUT ARRAY after the run is the attention of the arguments. -/
theorem arr_eq (c : Dev nD) : (dats m 0 c).arrAt 7 cfg0.N = result m c := by
  refine (dats m 0 c).arrAt_eq_of_covers 7 _ (by decide +kernel) fun t hf y => ?_
  blk_simp
  rw [after0_7]
  frame_out
  have e : ((View.whole main_v12).slice (win0_7.rect t)).emb y = y := by blk_ext [idx t]
  rw [e]
  have h2 : (y 2).val < 5120 := (y 2).isLt
  exact (congrArg _ (ix3_eta y).symm).trans (block_at m c t (y 0) (y 1) (y 2) ⟨(y 2).val / 640, by omega⟩ ⟨(y 2).val / 128 % 5, by omega⟩ ⟨(y 2).val % 128, by omega⟩ rfl rfl rfl)
end Cert.ReferenceIdeal.Hand
-- ==== Proof.Algebraic.lean ====
module

public import proofs.«01_k».proof.Defs
public import proofs.«01_k».proof.Proof.KernelValue
public import proofs.«01_k».proof.Proof.RefValue

@[expose] public section

noncomputable section

namespace Cert.Hand
open Idealize.ShloMosaic Idealize.SL.Sem

/-- When the two programs' arguments agree, so do the arrays their results are shown to be: both are the
    same function `attnArr` of the seven arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.result m' c = Cert.KernelIdeal.Hand.result m c := by
  have e0 : Cert.ReferenceIdeal.Hand.argQ m' c = Cert.KernelIdeal.Hand.argQ m c := by
    funext b i x e; exact congrFun h0 _
  have e1 : Cert.ReferenceIdeal.Hand.argQs m' c = Cert.KernelIdeal.Hand.argQs m c := by
    funext b n x; exact congrFun h1 _
  have e2 : Cert.ReferenceIdeal.Hand.argK m' c = Cert.KernelIdeal.Hand.argK m c := by
    funext b i x e; exact congrFun h2 _
  have e3 : Cert.ReferenceIdeal.Hand.argKs m' c = Cert.KernelIdeal.Hand.argKs m c := by
    funext b n x; exact congrFun h3 _
  have e4 : Cert.ReferenceIdeal.Hand.argV m' c = Cert.KernelIdeal.Hand.argV m c := by
    funext b i x e; exact congrFun h4 _
  have e5 : Cert.ReferenceIdeal.Hand.argVs m' c = Cert.KernelIdeal.Hand.argVs m c := by
    funext g d; exact congrFun h5 _
  have e6 : Cert.ReferenceIdeal.Hand.argPs m' c = Cert.KernelIdeal.Hand.argPs m c := congrFun h6 _
  unfold Cert.ReferenceIdeal.Hand.result Cert.KernelIdeal.Hand.result
  rw [e0, e1, e2, e3, e4, e5, e6]

/-- Over the reals and on equal arguments, the kernel and the reference leave the same result. -/
theorem algebraic : Cert.algebraic_KernelIdeal_ReferenceIdeal := by
  intro m g m' g' _ hagree
  refine ⟨fun c => Cert.KernelIdeal.Hand.result m c,
    (θ_run _ _ _).mono (fun r h c => ⟨(h.1 c).1.trans (Cert.KernelIdeal.Hand.arr_eq m c), (h.1 c).2⟩) (Cert.KernelIdeal.Hand.run_blocks m g),
    (θ_run _ _ _).mono (fun r h c => ⟨((h c).1.trans (Cert.ReferenceIdeal.Hand.arr_eq m' c)).trans ?_, (h c).2⟩) (Cert.ReferenceIdeal.Value.run_blocks m' g')⟩
  obtain ⟨h0, h1, h2, h3, h4, h5, h6⟩ := hagree c
  exact result_eq m m' c h0 h1 h2 h3 h4 h5 h6

end Cert.Hand
-- ==== Proof.lean ====
module

public import proofs.«01_k».proof.Defs
public import proofs.«01_k».proof.Proof.FrameAny
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: the three frames, that the ideal kernel is the kernel unchanged,
    and that the ideal kernel and the ideal reference leave the same result. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, Cert.Hand.algebraic⟩

end Cert.Proof

end
